-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S2048x384 : Shape := ⟨2, ![2048, 384]⟩
abbrev S2048x256 : Shape := ⟨2, ![2048, 256]⟩
abbrev S1024x384 : Shape := ⟨2, ![1024, 384]⟩
abbrev S1024x256 : Shape := ⟨2, ![1024, 256]⟩
abbrev S768x384 : Shape := ⟨2, ![768, 384]⟩
abbrev S768x256 : Shape := ⟨2, ![768, 256]⟩
abbrev S7 : Shape := ⟨1, ![7]⟩
abbrev S_ : Shape := ⟨0, ![]⟩
abbrev S256x384 : Shape := ⟨2, ![256, 384]⟩
abbrev S1 : Shape := ⟨1, ![1]⟩
abbrev S256x256 : Shape := ⟨2, ![256, 256]⟩
abbrev S384x1024 : Shape := ⟨2, ![384, 1024]⟩
abbrev S256x1024 : Shape := ⟨2, ![256, 1024]⟩

abbrev nBuf : Space → Nat
  | .hbm => 3
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x1024, .bf16⟩
  | .local _ .vmem, ⟨4, _⟩ => ⟨S2048x384, .bf16⟩
  | .local _ .vmem, ⟨5, _⟩ => ⟨S2048x384, .bf16⟩
  | .local _ .vmem, ⟨6, _⟩ => ⟨S2048x256, .bf16⟩
  | .local _ .vmem, ⟨7, _⟩ => ⟨S1024x384, .i8⟩
  | .local _ .vmem, ⟨8, _⟩ => ⟨S1024x384, .i8⟩
  | .local _ .vmem, ⟨9, _⟩ => ⟨S1024x256, .i8⟩
  | .local _ .vmem, ⟨10, _⟩ => ⟨S1024x384, .i8⟩
  | .local _ .vmem, ⟨11, _⟩ => ⟨S1024x384, .i8⟩
  | .local _ .vmem, ⟨12, _⟩ => ⟨S1024x256, .i8⟩
  | .local _ .vmem, ⟨13, _⟩ => ⟨S768x384, .bf16⟩
  | .local _ .vmem, ⟨14, _⟩ => ⟨S768x384, .bf16⟩
  | .local _ .vmem, ⟨15, _⟩ => ⟨S768x256, .bf16⟩
  | .local _ .vmem, ⟨16, _⟩ => ⟨S2048x384, .i8⟩
  | .local _ .vmem, ⟨17, _⟩ => ⟨S2048x384, .i8⟩
  | .local _ .vmem, ⟨18, _⟩ => ⟨S2048x256, .i8⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c7_i32
  let c256_i32 : BitVec 32 := 256#32
  let v14 : BitVec 32 := Scalar.muli v13 c256_i32
  let v15 : Index := Scalar.indexCast v14
  let c0 : Index := 0#32
  ![v15.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v85 : BitVec 32 := Scalar.xori v2 c4_i32_33
  let c1_i32_36 : BitVec 32 := 1#32
  let v86 : BitVec 32 := Scalar.muli v85 c1_i32_36
  let v87 : BitVec 32 := Scalar.addi c0_i32_37 v86
  v87.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v94 : BitVec 32 := Scalar.xori v2 c4_i32_42
  let c1_i32_45 : BitVec 32 := 1#32
  let v95 : BitVec 32 := Scalar.muli v94 c1_i32_45
  let v96 : BitVec 32 := Scalar.addi c0_i32_46 v95
  v96.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v103 : BitVec 32 := Scalar.xori v2 c4_i32_51
  let c1_i32_53 : BitVec 32 := 1#32
  let v104 : BitVec 32 := Scalar.muli v103 c1_i32_53
  let v105 : BitVec 32 := Scalar.addi c0_i32_54 v104
  v105.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v112 : BitVec 32 := Scalar.xori v2 c4_i32_58
  let c1_i32_61 : BitVec 32 := 1#32
  let v113 : BitVec 32 := Scalar.muli v112 c1_i32_61
  let v114 : BitVec 32 := Scalar.addi c0_i32_62 v113
  v114.toNat
def k0_off2 (d0 : Dev nD) (c2_i32_66 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v121 : BitVec 32 := Scalar.xori v2 c2_i32_66
  let c256_i32_67 : BitVec 32 := 256#32
  let v122 : BitVec 32 := Scalar.muli v121 c256_i32_67
  let v123 : Index := Scalar.indexCast v122
  let c384 : Index := 384#32
  ![v123.toNat, 384]
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v193 : BitVec 32 := Scalar.xori v2 c3_i32_97
  let c1_i32_100 : BitVec 32 := 1#32
  let v194 : BitVec 32 := Scalar.muli v193 c1_i32_100
  let v195 : BitVec 32 := Scalar.addi c0_i32_101 v194
  v195.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v202 : BitVec 32 := Scalar.xori v2 c3_i32_106
  let c1_i32_109 : BitVec 32 := 1#32
  let v203 : BitVec 32 := Scalar.muli v202 c1_i32_109
  let v204 : BitVec 32 := Scalar.addi c0_i32_110 v203
  v204.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v211 : BitVec 32 := Scalar.xori v2 c3_i32_115
  let c1_i32_118 : BitVec 32 := 1#32
  let v212 : BitVec 32 := Scalar.muli v211 c1_i32_118
  let v213 : BitVec 32 := Scalar.addi c0_i32_119 v212
  v213.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v220 : BitVec 32 := Scalar.xori v2 c3_i32_124
  let c1_i32_127 : BitVec 32 := 1#32
  let v221 : BitVec 32 := Scalar.muli v220 c1_i32_127
  let v222 : BitVec 32 := Scalar.addi c0_i32_128 v221
  v222.toNat
def k0_off3 (d0 : Dev nD) (c5_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v229 : BitVec 32 := Scalar.xori v2 c5_i32_133
  let c256_i32_134 : BitVec 32 := 256#32
  let v230 : BitVec 32 := Scalar.muli v229 c256_i32_134
  let v231 : Index := Scalar.indexCast v230
  let c768_135 : Index := 768#32
  ![v231.toNat, 768]
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_165 : BitVec 32 := 1#32
  let v301 : BitVec 32 := Scalar.xori v2 c1_i32_165
  let c1_i32_168 : BitVec 32 := 1#32
  let v302 : BitVec 32 := Scalar.muli v301 c1_i32_168
  let v303 : BitVec 32 := Scalar.addi c0_i32_169 v302
  v303.toNat
def k0_dev13 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v310 : BitVec 32 := Scalar.xori v2 c1_i32_174
  let c1_i32_177 : BitVec 32 := 1#32
  let v311 : BitVec 32 := Scalar.muli v310 c1_i32_177
  let v312 : BitVec 32 := Scalar.addi c0_i32_178 v311
  v312.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_183 : BitVec 32 := 1#32
  let v319 : BitVec 32 := Scalar.xori v2 c1_i32_183
  let c1_i32_186 : BitVec 32 := 1#32
  let v320 : BitVec 32 := Scalar.muli v319 c1_i32_186
  let v321 : BitVec 32 := Scalar.addi c0_i32_187 v320
  v321.toNat
def k0_dev15 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  let v328 : BitVec 32 := Scalar.xori v2 c1_i32_192
  let c1_i32_195 : BitVec 32 := 1#32
  let v329 : BitVec 32 := Scalar.muli v328 c1_i32_195
  let v330 : BitVec 32 := Scalar.addi c0_i32_196 v329
  v330.toNat
def k0_dev16 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v362 : BitVec 32 := Scalar.xori v2 c3_i32_222
  let c1_i32_225 : BitVec 32 := 1#32
  let v363 : BitVec 32 := Scalar.muli v362 c1_i32_225
  let v364 : BitVec 32 := Scalar.addi c0_i32_226 v363
  v364.toNat
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_248 : BitVec 32 := 1#32
  let v391 : BitVec 32 := Scalar.xori v2 c1_i32_248
  let c1_i32_251 : BitVec 32 := 1#32
  let v392 : BitVec 32 := Scalar.muli v391 c1_i32_251
  let v393 : BitVec 32 := Scalar.addi c0_i32_252 v392
  v393.toNat
def k0_dev18 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_273 : BitVec 32 := 4#32
  let v420 : BitVec 32 := Scalar.xori v2 c4_i32_273
  let c1_i32_276 : BitVec 32 := 1#32
  let v421 : BitVec 32 := Scalar.muli v420 c1_i32_276
  let v422 : BitVec 32 := Scalar.addi c0_i32_277 v421
  v422.toNat
def k0_dev19 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_298 : BitVec 32 := 3#32
  let v449 : BitVec 32 := Scalar.xori v2 c3_i32_298
  let c1_i32_301 : BitVec 32 := 1#32
  let v450 : BitVec 32 := Scalar.muli v449 c1_i32_301
  let v451 : BitVec 32 := Scalar.addi c0_i32_302 v450
  v451.toNat
def k0_dev20 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_323 : BitVec 32 := 1#32
  let v478 : BitVec 32 := Scalar.xori v2 c1_i32_323
  let c1_i32_326 : BitVec 32 := 1#32
  let v479 : BitVec 32 := Scalar.muli v478 c1_i32_326
  let v480 : BitVec 32 := Scalar.addi c0_i32_327 v479
  v480.toNat
def k0_dev21 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_347 : BitVec 32 := 4#32
  let v507 : BitVec 32 := Scalar.xori v2 c4_i32_347
  let c1_i32_350 : BitVec 32 := 1#32
  let v508 : BitVec 32 := Scalar.muli v507 c1_i32_350
  let v509 : BitVec 32 := Scalar.addi c0_i32_351 v508
  v509.toNat
def k0_dev22 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_472 : BitVec 32 := 1#32
  let v649 : BitVec 32 := Scalar.xori v2 c1_i32_472
  let c1_i32_475 : BitVec 32 := 1#32
  let v650 : BitVec 32 := Scalar.muli v649 c1_i32_475
  let v651 : BitVec 32 := Scalar.addi c0_i32_476 v650
  v651.toNat
def k0_dev23 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_496 : BitVec 32 := 4#32
  let v671 : BitVec 32 := Scalar.xori v2 c4_i32_496
  let c1_i32_499 : BitVec 32 := 1#32
  let v672 : BitVec 32 := Scalar.muli v671 c1_i32_499
  let v673 : BitVec 32 := Scalar.addi c0_i32_500 v672
  v673.toNat
def k0_dev24 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_520 : BitVec 32 := 3#32
  let v693 : BitVec 32 := Scalar.xori v2 c3_i32_520
  let c1_i32_523 : BitVec 32 := 1#32
  let v694 : BitVec 32 := Scalar.muli v693 c1_i32_523
  let v695 : BitVec 32 := Scalar.addi c0_i32_524 v694
  v695.toNat
def k0_dev25 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_650 : BitVec 32 := 1#32
  let v829 : BitVec 32 := Scalar.xori v2 c1_i32_650
  let c1_i32_653 : BitVec 32 := 1#32
  let v830 : BitVec 32 := Scalar.muli v829 c1_i32_653
  let v831 : BitVec 32 := Scalar.addi c0_i32_654 v830
  v831.toNat
def k0_dev26 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_659 : BitVec 32 := 3#32
  let v838 : BitVec 32 := Scalar.xori v2 c3_i32_659
  let c1_i32_662 : BitVec 32 := 1#32
  let v839 : BitVec 32 := Scalar.muli v838 c1_i32_662
  let v840 : BitVec 32 := Scalar.addi c0_i32_663 v839
  v840.toNat
def k0_dev27 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_668 : BitVec 32 := 4#32
  let v847 : BitVec 32 := Scalar.xori v2 c4_i32_668
  let c1_i32_671 : BitVec 32 := 1#32
  let v848 : BitVec 32 := Scalar.muli v847 c1_i32_671
  let v849 : BitVec 32 := Scalar.addi c0_i32_672 v848
  v849.toNat
def k0_dev28 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_677 : BitVec 32 := 4#32
  let v856 : BitVec 32 := Scalar.xori v2 c4_i32_677
  let c1_i32_680 : BitVec 32 := 1#32
  let v857 : BitVec 32 := Scalar.muli v856 c1_i32_680
  let v858 : BitVec 32 := Scalar.addi c0_i32_681 v857
  v858.toNat
def k0_dev29 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_686 : BitVec 32 := 1#32
  let v865 : BitVec 32 := Scalar.xori v2 c1_i32_686
  let c1_i32_689 : BitVec 32 := 1#32
  let v866 : BitVec 32 := Scalar.muli v865 c1_i32_689
  let v867 : BitVec 32 := Scalar.addi c0_i32_690 v866
  v867.toNat
def k0_dev30 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_695 : BitVec 32 := 3#32
  let v874 : BitVec 32 := Scalar.xori v2 c3_i32_695
  let c1_i32_698 : BitVec 32 := 1#32
  let v875 : BitVec 32 := Scalar.muli v874 c1_i32_698
  let v876 : BitVec 32 := Scalar.addi c0_i32_699 v875
  v876.toNat
def k0_dev31 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_704 : BitVec 32 := 3#32
  let v883 : BitVec 32 := Scalar.xori v2 c3_i32_704
  let c1_i32_707 : BitVec 32 := 1#32
  let v884 : BitVec 32 := Scalar.muli v883 c1_i32_707
  let v885 : BitVec 32 := Scalar.addi c0_i32_708 v884
  v885.toNat
def k0_dev32 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_713 : BitVec 32 := 4#32
  let v892 : BitVec 32 := Scalar.xori v2 c4_i32_713
  let c1_i32_716 : BitVec 32 := 1#32
  let v893 : BitVec 32 := Scalar.muli v892 c1_i32_716
  let v894 : BitVec 32 := Scalar.addi c0_i32_717 v893
  v894.toNat
def k0_dev33 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_722 : BitVec 32 := 1#32
  let v901 : BitVec 32 := Scalar.xori v2 c1_i32_722
  let c1_i32_725 : BitVec 32 := 1#32
  let v902 : BitVec 32 := Scalar.muli v901 c1_i32_725
  let v903 : BitVec 32 := Scalar.addi c0_i32_726 v902
  v903.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_731 : BitVec 32 := 256#32
  let v911 : BitVec 32 := Scalar.muli v2 c256_i32_731
  let v912 : Index := Scalar.indexCast v911
  let c0_732 : Index := 0#32
  ![v912.toNat, 0]
def k0_dev34 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_742 : BitVec 32 := 3#32
  let v921 : BitVec 32 := Scalar.xori v2 c3_i32_742
  let c1_i32_745 : BitVec 32 := 1#32
  let v922 : BitVec 32 := Scalar.muli v921 c1_i32_745
  let v923 : BitVec 32 := Scalar.addi c0_i32_746 v922
  v923.toNat
def k0_dev35 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_751 : BitVec 32 := 4#32
  let v930 : BitVec 32 := Scalar.xori v2 c4_i32_751
  let c1_i32_754 : BitVec 32 := 1#32
  let v931 : BitVec 32 := Scalar.muli v930 c1_i32_754
  let v932 : BitVec 32 := Scalar.addi c0_i32_755 v931
  v932.toNat
def k0_dev36 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_769 : BitVec 32 := 1#32
  let v946 : BitVec 32 := Scalar.xori v2 c1_i32_769
  let c1_i32_772 : BitVec 32 := 1#32
  let v947 : BitVec 32 := Scalar.muli v946 c1_i32_772
  let v948 : BitVec 32 := Scalar.addi c0_i32_773 v947
  v948.toNat
def k0_dev37 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_778 : BitVec 32 := 3#32
  let v955 : BitVec 32 := Scalar.xori v2 c3_i32_778
  let c1_i32_781 : BitVec 32 := 1#32
  let v956 : BitVec 32 := Scalar.muli v955 c1_i32_781
  let v957 : BitVec 32 := Scalar.addi c0_i32_782 v956
  v957.toNat
def k0_dev38 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_796 : BitVec 32 := 4#32
  let v971 : BitVec 32 := Scalar.xori v2 c4_i32_796
  let c1_i32_799 : BitVec 32 := 1#32
  let v972 : BitVec 32 := Scalar.muli v971 c1_i32_799
  let v973 : BitVec 32 := Scalar.addi c0_i32_800 v972
  v973.toNat
def k0_dev39 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_805 : BitVec 32 := 1#32
  let v980 : BitVec 32 := Scalar.xori v2 c1_i32_805
  let c1_i32_808 : BitVec 32 := 1#32
  let v981 : BitVec 32 := Scalar.muli v980 c1_i32_808
  let v982 : BitVec 32 := Scalar.addi c0_i32_809 v981
  v982.toNat
def k0_dev40 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_841 : BitVec 32 := 4#32
  let v1020 : BitVec 32 := Scalar.xori v2 c4_i32_841
  let c1_i32_844 : BitVec 32 := 1#32
  let v1021 : BitVec 32 := Scalar.muli v1020 c1_i32_844
  let v1022 : BitVec 32 := Scalar.addi c0_i32_845 v1021
  v1022.toNat
def k0_dev41 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_859 : BitVec 32 := 3#32
  let v1036 : BitVec 32 := Scalar.xori v2 c3_i32_859
  let c1_i32_862 : BitVec 32 := 1#32
  let v1037 : BitVec 32 := Scalar.muli v1036 c1_i32_862
  let v1038 : BitVec 32 := Scalar.addi c0_i32_863 v1037
  v1038.toNat
def k0_dev42 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_877 : BitVec 32 := 1#32
  let v1052 : BitVec 32 := Scalar.xori v2 c1_i32_877
  let c1_i32_880 : BitVec 32 := 1#32
  let v1053 : BitVec 32 := Scalar.muli v1052 c1_i32_880
  let v1054 : BitVec 32 := Scalar.addi c0_i32_881 v1053
  v1054.toNat
def k0_dev43 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_913 : BitVec 32 := 4#32
  let v1092 : BitVec 32 := Scalar.xori v2 c4_i32_913
  let c1_i32_916 : BitVec 32 := 1#32
  let v1093 : BitVec 32 := Scalar.muli v1092 c1_i32_916
  let v1094 : BitVec 32 := Scalar.addi c0_i32_917 v1093
  v1094.toNat
def k0_dev44 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_930 : BitVec 32 := 3#32
  let v1108 : BitVec 32 := Scalar.xori v2 c3_i32_930
  let c1_i32_933 : BitVec 32 := 1#32
  let v1109 : BitVec 32 := Scalar.muli v1108 c1_i32_933
  let v1110 : BitVec 32 := Scalar.addi c0_i32_934 v1109
  v1110.toNat
def k0_dev45 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_948 : BitVec 32 := 1#32
  let v1124 : BitVec 32 := Scalar.xori v2 c1_i32_948
  let c1_i32_951 : BitVec 32 := 1#32
  let v1125 : BitVec 32 := Scalar.muli v1124 c1_i32_951
  let v1126 : BitVec 32 := Scalar.addi c0_i32_952 v1125
  v1126.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S16384x1024 : Shape := ⟨2, ![16384, 1024]⟩
abbrev S1024x1024 : Shape := ⟨2, ![1024, 1024]⟩
abbrev S8x8x256x1024 : Shape := ⟨4, ![8, 8, 256, 1024]⟩
abbrev S_ : Shape := ⟨0, ![]⟩
abbrev S8x256x1024 : Shape := ⟨3, ![8, 256, 1024]⟩
abbrev S2048x1024 : Shape := ⟨2, ![2048, 1024]⟩
abbrev S1x8x256x1024 : Shape := ⟨4, ![1, 8, 256, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S8x8x256x1024, .f32⟩
  | .hbm, ⟨4, _⟩ => ⟨S8x8x256x1024, .i32⟩
  | .hbm, ⟨5, _⟩ => ⟨S8x8x256x1024, .i32⟩
  | .hbm, ⟨6, _⟩ => ⟨S8x8x256x1024, .i32⟩
  | .hbm, ⟨7, _⟩ => ⟨S8x8x256x1024, .i32⟩
  | .hbm, ⟨8, _⟩ => ⟨S_, .i32⟩
  | .hbm, ⟨9, _⟩ => ⟨S8x8x256x1024, .i32⟩
  | .hbm, ⟨10, _⟩ => ⟨S8x8x256x1024, .i1⟩
  | .hbm, ⟨11, _⟩ => ⟨S_, .i32⟩
  | .hbm, ⟨12, _⟩ => ⟨S8x8x256x1024, .i32⟩
  | .hbm, ⟨13, _⟩ => ⟨S8x8x256x1024, .i32⟩
  | .hbm, ⟨14, _⟩ => ⟨S_, .i32⟩
  | .hbm, ⟨15, _⟩ => ⟨S8x8x256x1024, .i32⟩
  | .hbm, ⟨16, _⟩ => ⟨S8x8x256x1024, .i1⟩
  | .hbm, ⟨17, _⟩ => ⟨S_, .i32⟩
  | .hbm, ⟨18, _⟩ => ⟨S8x8x256x1024, .i32⟩
  | .hbm, ⟨19, _⟩ => ⟨S8x8x256x1024, .i32⟩
  | .hbm, ⟨20, _⟩ => ⟨S_, .i32⟩
  | .hbm, ⟨21, _⟩ => ⟨S8x8x256x1024, .i32⟩
  | .hbm, ⟨22, _⟩ => ⟨S8x8x256x1024, .i32⟩
  | .hbm, ⟨23, _⟩ => ⟨S8x8x256x1024, .i32⟩
  | .hbm, ⟨24, _⟩ => ⟨S8x8x256x1024, .i32⟩
  | .hbm, ⟨25, _⟩ => ⟨S8x8x256x1024, .i32⟩
  | .hbm, ⟨26, _⟩ => ⟨S_, .i32⟩
  | .hbm, ⟨27, _⟩ => ⟨S8x8x256x1024, .i32⟩
  | .hbm, ⟨28, _⟩ => ⟨S8x8x256x1024, .i32⟩
  | .hbm, ⟨29, _⟩ => ⟨S_, .i32⟩
  | .hbm, ⟨30, _⟩ => ⟨S8x8x256x1024, .i32⟩
  | .hbm, ⟨31, _⟩ => ⟨S8x8x256x1024, .i1⟩
  | .hbm, ⟨32, _⟩ => ⟨S_, .f32⟩
  | .hbm, ⟨33, _⟩ => ⟨S8x8x256x1024, .f32⟩
  | .hbm, ⟨34, _⟩ => ⟨S8x8x256x1024, .f32⟩
  | .hbm, ⟨35, _⟩ => ⟨S8x8x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x8x256x1024, .f32⟩
  | .hbm, ⟨40, _⟩ => ⟨S8x8x256x1024, .f32⟩
  | .hbm, ⟨41, _⟩ => ⟨S_, .f32⟩
  | .hbm, ⟨42, _⟩ => ⟨S8x8x256x1024, .f32⟩
  | .hbm, ⟨43, _⟩ => ⟨S8x8x256x1024, .f32⟩
  | .hbm, ⟨44, _⟩ => ⟨S_, .f32⟩
  | .hbm, ⟨45, _⟩ => ⟨S8x8x256x1024, .f32⟩
  | .hbm, ⟨46, _⟩ => ⟨S8x8x256x1024, .f32⟩
  | .hbm, ⟨47, _⟩ => ⟨S8x8x256x1024, .f32⟩
  | .hbm, ⟨48, _⟩ => ⟨S_, .f32⟩
  | .hbm, ⟨49, _⟩ => ⟨S8x256x1024, .f32⟩
  | .hbm, ⟨50, _⟩ => ⟨S2048x1024, .f32⟩
  | .hbm, ⟨51, _⟩ => ⟨S2048x1024, .bf16⟩
  | .hbm, ⟨52, _⟩ => ⟨S2048x1024, .f32⟩
  | .hbm, ⟨53, _⟩ => ⟨S1024x1024, .f32⟩
  | .hbm, ⟨54, _⟩ => ⟨S2048x1024, .f32⟩
  | .hbm, ⟨55, _⟩ => ⟨S1x8x256x1024, .f32⟩
  | .hbm, ⟨56, _⟩ => ⟨S8x8x256x1024, .f32⟩
  | .hbm, ⟨57, _⟩ => ⟨S8x8x256x1024, .i1⟩
  | .hbm, ⟨58, _⟩ => ⟨S_, .f32⟩
  | .hbm, ⟨59, _⟩ => ⟨S8x8x256x1024, .f32⟩
  | .hbm, ⟨60, _⟩ => ⟨S8x8x256x1024, .f32⟩
  | .hbm, ⟨61, _⟩ => ⟨S8x8x256x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x8x256x1024, .f32⟩
  | .hbm, ⟨66, _⟩ => ⟨S8x8x256x1024, .f32⟩
  | .hbm, ⟨67, _⟩ => ⟨S_, .f32⟩
  | .hbm, ⟨68, _⟩ => ⟨S8x8x256x1024, .f32⟩
  | .hbm, ⟨69, _⟩ => ⟨S8x8x256x1024, .f32⟩
  | .hbm, ⟨70, _⟩ => ⟨S_, .f32⟩
  | .hbm, ⟨71, _⟩ => ⟨S8x8x256x1024, .f32⟩
  | .hbm, ⟨72, _⟩ => ⟨S8x8x256x1024, .f32⟩
  | .hbm, ⟨73, _⟩ => ⟨S8x8x256x1024, .f32⟩
  | .hbm, ⟨74, _⟩ => ⟨S16384x1024, .f32⟩
  | .hbm, ⟨75, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_cst_7 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_cst_12 : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_v42 : Ref sig .tc := ⟨.hbm, 69, rfl⟩
abbrev main_cst_13 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Proof.Ops.lean ====
/-
  # The kernel as a list of steps

  One device's program quantises, sends, receives and accumulates in three column groups. Here every kind of step
  is written once, over the group `p`, and the whole program is the list of its steps in order; `body_eq` says the
  printed kernel function is that list, run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.SL.Sem

variable {F : FTy → Type} [FloatOps F] [Named F]

/-! ## The three column groups -/

/-- The columns in group `p`. -/
abbrev wid : Fin 3 → Nat := ![384, 384, 256]
/-- The group's first column. -/
abbrev col : Fin 3 → Nat := ![0, 384, 768]
/-- `n` blocks of the group: 256 rows each. -/
abbrev shN (n : Nat) (p : Fin 3) : Shape := ⟨2, ![256 * n, wid p]⟩
/-- One block. -/
abbrev shp (p : Fin 3) : Shape := ⟨2, ![256, wid p]⟩

/-- The exchange a group's first, second and third halving runs over. -/
abbrev m1 : Fin 3 → Fin 8 := ![4, 3, 1]
abbrev m2 : Fin 3 → Fin 8 := ![3, 1, 4]
abbrev m3 : Fin 3 → Fin 8 := ![1, 4, 3]

/-- The row block, relative to the device's own, which the `k`-th first-halving transfer brings. -/
abbrev dd (p : Fin 3) : Fin 4 → Fin 8 := ![m2 p, m2 p ^^^ m3 p, m3 p, 0]

/-- Row block `b` of `n`. -/
abbrev row (n : Nat) (p : Fin 3) (b : Fin n) : Rect (shN n p) :=
  Rect.unit (s := shN n p) ![256 * b.val, 0] ![256, wid p] (by
    intro a; have := b.isLt
    refine Fin.cases ?_ (fun a => Fin.cases ?_ (fun a => a.elim0) a) a
    · show 256 * b.val + 256 ≤ 256 * n; omega
    · show 0 + wid p ≤ wid p; omega)

/-! ## Buffers -/

abbrev tM : Memref sig .tc .vmem S2048x1024 .bf16 := win0_0.stage 0
abbrev winM : Memref sig .tc .vmem S1024x1024 .bf16 := win0_1.stage 0
abbrev outM : Memref sig .tc .vmem S2048x1024 .bf16 := win0_2.stage 0
abbrev wM : Memref sig .tc .vmem S1024x1024 .bf16 := Memref.whole cc0_scratch0

abbrev accM (p : Fin 3) : Memref sig .tc .vmem (shN 8 p) .bf16 :=
  match p with | 0 => Memref.whole cc0_scratch1 | 1 => Memref.whole cc0_scratch2 | 2 => Memref.whole cc0_scratch3
abbrev sndM (p : Fin 3) : Memref sig .tc .vmem (shN 4 p) .i8 :=
  match p with | 0 => Memref.whole cc0_scratch4 | 1 => Memref.whole cc0_scratch5 | 2 => Memref.whole cc0_scratch6
abbrev r8M (p : Fin 3) : Memref sig .tc .vmem (shN 4 p) .i8 :=
  match p with | 0 => Memref.whole cc0_scratch7 | 1 => Memref.whole cc0_scratch8 | 2 => Memref.whole cc0_scratch9
abbrev r16M (p : Fin 3) : Memref sig .tc .vmem (shN 3 p) .bf16 :=
  match p with | 0 => Memref.whole cc0_scratch10 | 1 => Memref.whole cc0_scratch11 | 2 => Memref.whole cc0_scratch12
abbrev agM (p : Fin 3) : Memref sig .tc .vmem (shN 8 p) .i8 :=
  match p with | 0 => Memref.whole cc0_scratch13 | 1 => Memref.whole cc0_scratch14 | 2 => Memref.whole cc0_scratch15

theorem accM_whole (p : Fin 3) : (accM p).IsWhole := match p with | 0 | 1 | 2 => Memref.isWhole_whole _
theorem sndM_whole (p : Fin 3) : (sndM p).IsWhole := match p with | 0 | 1 | 2 => Memref.isWhole_whole _
theorem r8M_whole (p : Fin 3) : (r8M p).IsWhole := match p with | 0 | 1 | 2 => Memref.isWhole_whole _
theorem r16M_whole (p : Fin 3) : (r16M p).IsWhole := match p with | 0 | 1 | 2 => Memref.isWhole_whole _
theorem agM_whole (p : Fin 3) : (agM p).IsWhole := match p with | 0 | 1 | 2 => Memref.isWhole_whole _

theorem packed8b (p : Fin 3) (b : Fin 8) : (row 8 p b).PackedRows (EltTy.packing .bf16) := by revert p b; decide +kernel
theorem packed8i (p : Fin 3) (b : Fin 8) : (row 8 p b).PackedRows (EltTy.packing .i8) := by revert p b; decide +kernel
theorem packed4i (p : Fin 3) (b : Fin 4) : (row 4 p b).PackedRows (EltTy.packing .i8) := by revert p b; decide +kernel
theorem words3b (p : Fin 3) (b : Fin 3) : (row 3 p b).WholeWords (EltTy.packing .bf16) := by revert p b; decide +kernel
theorem shp_pos (p : Fin 3) : 0 < (shp p).numel := by revert p; decide
theorem shp_casts (p : Fin 3) : (shp p).ShapeCasts (shp p) := by revert p; decide +kernel

/-! ## The addresses the program computes from its device number -/

/-- The number of device `d` exchanged by `r`, as the program computes it. -/
abbrev xw (d : Dev nD) (r : BitVec 32) : BitVec 32 :=
  Scalar.xori (Scalar.remsi (Scalar.divsi (Dev.word d) 1#32) 8#32) r

abbrev devW (d : Dev nD) (r : Fin 8) : Nat := (Scalar.addi 0#32 (Scalar.muli (xw d (BitVec.ofNat 32 r.val)) 1#32)).toNat

theorem devW_lt (d : Dev nD) (r : Fin 8) : devW d r < nD := by revert d r; decide +kernel

/-- The partner of device `d` over exchange `r`, as the program addresses it. -/
abbrev partner (d : Dev nD) (r : Fin 8) : Dev nD := ⟨devW d r, devW_lt d r⟩

/-- Where row block `r` (relative to the device's own) begins in the wide buffers, in group `p`'s columns. -/
abbrev tOff (d : Dev nD) (p : Fin 3) (r : Fin 8) : Fin 2 → Nat :=
  ![(Scalar.indexCast (Scalar.muli (xw d (BitVec.ofNat 32 r.val)) 256#32)).toNat, col p]

theorem tOff_inb (d : Dev nD) (p : Fin 3) (r : Fin 8) : ∀ a, tOff d p r a + (shp p).size a ≤ S2048x1024.size a := by
  revert d p r; decide +kernel

abbrev tR (d : Dev nD) (p : Fin 3) (r : Fin 8) : Rect S2048x1024 := Rect.unit (s := S2048x1024) (tOff d p r) (shp p).size (tOff_inb d p r)

theorem tR_packed (d : Dev nD) (p : Fin 3) (r : Fin 8) : (tR d p r).PackedRows (EltTy.packing .bf16) := by
  revert d p r; decide +kernel

abbrev oR (d : Dev nD) : Rect S2048x1024 := Rect.unit (s := S2048x1024) (k0_off4 d) S256x1024.size (k0_off4_inb d)

/-! ## Values -/

/-- What is sent in the first halving: eight-bit integers, 32 to the unit. -/
abbrev qz (p : Fin 3) (t : Vec F (shp p) .bf16) : IVec (shp p) 8 :=
  shapeCast (shp p) (fptosi 8 (minimumf (broadcast (shp p) (Scalar.truncf .bf16 bitsLt_bf16_f32 (Scalar.ofBits .f32 0x42FE0000#32)))
    (maximumf (broadcast (shp p) (Scalar.truncf .bf16 bitsLt_bf16_f32 (Scalar.ofBits .f32 0xC2FE0000#32)))
      (roundeven (mulf (shapeCast (shp p) t (shp_casts p) : FVec F (shp p) .bf16) (broadcast (shp p) (Scalar.ofBits .bf16 0x4200#16))))))) (shp_casts p)

/-- A first-halving partial sum: the device's own rows and the integers received, at 1/32. -/
abbrev add8 (p : Fin 3) (r : Vec F (shp p) .i8) (t : Vec F (shp p) .bf16) : FVec F (shp p) .bf16 :=
  shapeCast (shp p) (addf (shapeCast (shp p) t (shp_casts p) : FVec F (shp p) .bf16)
    (mulf (sitofp .bf16 r) (broadcast (shp p) (Scalar.ofBits .bf16 0x3D00#16)))) (shp_casts p)

/-- A later partial sum: the one held and the one received. -/
abbrev add16 (p : Fin 3) (r a : Vec F (shp p) .bf16) : FVec F (shp p) .bf16 :=
  shapeCast (shp p) (addf (a : FVec F (shp p) .bf16) r) (shp_casts p)

/-- The device's block of the product, group after group. -/
abbrev dot3 (a0 : Vec F S256x384 .bf16) (w0 : Vec F S384x1024 .bf16) (a1 : Vec F S256x384 .bf16) (w1 : Vec F S384x1024 .bf16)
    (a2 : Vec F S256x256 .bf16) (w2 : Vec F S256x1024 .bf16) : FVec F S256x1024 .f32 :=
  k0_pay44 a0 w0 a1 w1 a2 w2

theorem slicesP (p : Fin 3) : S256x1024.Slices ![0, col p] (shp p) := by revert p; decide +kernel

/-- What is gathered: the product's columns as eight-bit integers, three units apart. -/
abbrev q3 (p : Fin 3) (o : FVec F S256x1024 .f32) : IVec (shp p) 8 :=
  shapeCast (shp p) (fptosi 8 (minimumf (broadcast (shp p) (Scalar.ofBits .f32 0x42FE0000#32))
    (maximumf (broadcast (shp p) (Scalar.ofBits .f32 0xC2FE0000#32))
      (roundeven (mulf (extractStridedSlice (shp p) ![0, col p] o (slicesP p)) (broadcast (shp p) (Named.named κ "third" 0x3EAAAAAB#32))))))) (shp_casts p)

/-- What a gathered block is stored as. -/
abbrev dq3 (p : Fin 3) (g : Vec F (shp p) .i8) : FVec F (shp p) .bf16 :=
  mulf (sitofp .bf16 g) (broadcast (shp p) (Scalar.ofBits .bf16 0x4040#16))

/-! ## The transfers -/

/-- A transfer: one of a group's four first-halving transfers, of its three later ones, of its seven gathering ones. -/
inductive X where
  | a (p : Fin 3) (k : Fin 4)
  | b (p : Fin 3) (j : Fin 3)
  | g (p : Fin 3) (i : Fin 7)
  deriving DecidableEq

namespace X

abbrev all : List X :=
  (List.finRange 3).flatMap fun p => (List.finRange 4).map (a p) ++ (List.finRange 3).map (b p) ++ (List.finRange 7).map (g p)

theorem all_nodup : all.Nodup := by decide +kernel
theorem mem_all : (x : X) → x ∈ all
  | a p k => by revert p k; decide +kernel
  | b p j => by revert p j; decide +kernel
  | g p i => by revert p i; decide +kernel

instance : Fintype X := ⟨⟨all, all_nodup⟩, mem_all⟩

abbrev grp : X → Fin 3 | a p _ | b p _ | g p _ => p
abbrev elt : X → EltTy | a _ _ => .i8 | b _ _ => .bf16 | g _ _ => .i8

/-- The accumulator block a later transfer sends. -/
abbrev bk : Fin 3 → Fin 4 := ![1, 0, 2]
abbrev bsrc (p : Fin 3) (j : Fin 3) : Fin 8 := dd p (bk j)
abbrev bmsk (p : Fin 3) : Fin 3 → Fin 8 := ![m2 p, m2 p, m3 p]
/-- The gathered block a gathering transfer sends, and the exchange it goes over. -/
abbrev gsrc (p : Fin 3) : Fin 7 → Fin 8 := ![0, 0, 0, m3 p, m3 p, m2 p, m3 p ^^^ m2 p]
abbrev gmsk (p : Fin 3) : Fin 7 → Fin 8 := ![m3 p, m2 p, m1 p, m2 p, m1 p, m1 p, m1 p]

/-- The exchange a transfer goes over. -/
abbrev mask : X → Fin 8
  | a p _ => m1 p
  | b p j => bmsk p j
  | g p i => gmsk p i

/-- Its source, on the sending device, and its target, on the receiving one. -/
abbrev src : (x : X) → Memref sig .tc .vmem (shp x.grp) x.elt
  | a p k => (sndM p).slice (row 4 p k) (fun _ => rfl)
  | b p j => (accM p).slice (row 8 p (bsrc p j)) (fun _ => rfl)
  | g p i => (agM p).slice (row 8 p (gsrc p i)) (fun _ => rfl)
abbrev dst : (x : X) → Memref sig .tc .vmem (shp x.grp) x.elt
  | a p k => (r8M p).slice (row 4 p k) (fun _ => rfl)
  | b p j => (r16M p).slice (row 3 p j) (fun _ => rfl)
  | g p i => (agM p).slice (row 8 p (gsrc p i ^^^ gmsk p i)) (fun _ => rfl)

theorem src_words : (x : X) → x.src.view.WordExact
  | a p k => (sndM_whole p).wordExact_slice rfl _ (packed4i p k).wholeWords
  | b p j => (accM_whole p).wordExact_slice rfl _ (packed8b p _).wholeWords
  | g p i => (agM_whole p).wordExact_slice rfl _ (packed8i p _).wholeWords
theorem dst_words : (x : X) → x.dst.view.WordExact
  | a p k => (r8M_whole p).wordExact_slice rfl _ (packed4i p k).wholeWords
  | b p j => (r16M_whole p).wordExact_slice rfl _ (words3b p j)
  | g p i => (agM_whole p).wordExact_slice rfl _ (packed8i p _).wholeWords

end X

/-- Semaphore `k` of an array of seven. -/
abbrev semAt (A : DmaSems sig S7) (k : Fin 7) : DmaSem sig :=
  ((A.slice (Rect.unit (s := S7) ![k.val] S1.size (by revert k; decide))).squeeze S_ squeezes_S1_S_).sem

abbrev rsSend : Fin 3 → DmaSems sig S7 := fun p => match p with | 0 => cc0_scratch16 | 1 => cc0_scratch17 | 2 => cc0_scratch18
abbrev rsRecv : Fin 3 → DmaSems sig S7 := fun p => match p with | 0 => cc0_scratch19 | 1 => cc0_scratch20 | 2 => cc0_scratch21
abbrev agSend : Fin 3 → DmaSems sig S7 := fun p => match p with | 0 => cc0_scratch22 | 1 => cc0_scratch23 | 2 => cc0_scratch24
abbrev agRecv : Fin 3 → DmaSems sig S7 := fun p => match p with | 0 => cc0_scratch25 | 1 => cc0_scratch26 | 2 => cc0_scratch27

/-- The semaphores a transfer counts on: the sender's and the receiver's. -/
abbrev X.sS : X → DmaSem sig
  | .a p k => semAt (rsSend p) (k.castLE (by decide))
  | .b p j => semAt (rsSend p) ((j.natAdd 4))
  | .g p i => semAt (agSend p) i
abbrev X.rS : X → DmaSem sig
  | .a p k => semAt (rsRecv p) (k.castLE (by decide))
  | .b p j => semAt (rsRecv p) ((j.natAdd 4))
  | .g p i => semAt (agRecv p) i

/-! ## The steps -/

inductive Op where
  /-- Tell a partner that this device is ready. -/
  | sig (e : Fin 3)
  /-- Quantise the rows the group's `k`-th first transfer sends. -/
  | quant (p : Fin 3) (k : Fin 4)
  /-- Wait for the three partners. -/
  | bar
  /-- Start a transfer, wait for its arrival here, wait for its departure from here. -/
  | start (x : X)
  | recv (x : X)
  | sent (x : X)
  /-- Keep a copy of the weights. -/
  | wcopy
  /-- Fold in what a first-halving, a later transfer brought. -/
  | acc8 (p : Fin 3) (k : Fin 4)
  | acc16 (p : Fin 3) (j : Fin 3)
  /-- Store a gathered block. -/
  | out (p : Fin 3) (i : Fin 7)

/-- The accumulator block a later transfer is added to. -/
abbrev ak : Fin 3 → Fin 4 := ![2, 3, 3]
abbrev adst (p : Fin 3) (j : Fin 3) : Fin 8 := dd p (ak j)

/-- The exchanges the partners' barrier signals come over. -/
abbrev mk : Fin 3 → Fin 8 := ![1, 3, 4]

/-- The gathered blocks, in the order they are stored. -/
abbrev ob (p : Fin 3) : Fin 7 → Fin 8 :=
  ![m3 p, m2 p, m3 p ^^^ m2 p, m1 p, m3 p ^^^ m1 p, m2 p ^^^ m1 p, m3 p ^^^ m2 p ^^^ m1 p]

abbrev barSem : Sem sig := (SemArray.scalar (sig.barrier 0 rfl) : Sems sig S_).sem

variable (F) in
abbrev PR := Prog (TpuEff nD τ sig (Elt F) Λ₀ .tc) PUnit

abbrev ldSt {s : Shape} {e : EltTy} (m : Memref sig .tc .vmem s e) (hm : m.IsWhole) (r : Rect s) (h : 0 < r.shape.numel)
    (hp : r.PackedRows e.packing) (w : Vec F r.shape e) (k : PR F) : PR F :=
  .op (.load m r.toLoadRect (View.loadsAt_vmem h)) fun _ =>
  .op (.store m r w Finset.univ (View.stores_vmem h (hm.storeExact_slice rfl _ hp) (fun _ => rfl)) (.inl rfl)) fun _ => k

abbrev step (d : Dev nD) : Op → PR F → PR F
  | .sig e, k => .op (.semSignal (partner d (mk e), .tc) barSem (1#32 : BitVec 32).toInt) fun _ => k
  | .quant p j, k =>
    .op (.load tM (tR d p (dd p j ^^^ m1 p)).toLoadRect (View.loadsAt_vmem (shp_pos p))) fun t =>
    ldSt (sndM p) (sndM_whole p) (row 4 p j) (shp_pos p) (packed4i p j) (qz p t) k
  | .bar, k => .op (.semWait barSem (3#32 : BitVec 32).toInt) fun _ => k
  | .start x, k =>
    .op (.enqueueDma x.src (.remote (Dev.tc (partner d x.mask)) x.dst (.dma x.sS)) (.dma x.rS) x.src_words x.dst_words
      ⟨⟨rfl, Or.inl rfl⟩, trivial⟩) fun _ => k
  | .recv x, k => .op (.waitDma2 x.rS x.src x.dst x.src_words x.dst_words) fun _ => k
  | .sent x, k => .op (.waitDma2 x.sS x.dst x.src x.dst_words x.src_words) fun _ => k
  | .wcopy, k =>
    .op (.load winM (Rect.unit (s := S1024x1024) ![0, 0] S1024x1024.size inb_S1024x1024_S1024x1024_0_0).toLoadRect (View.loadsAt_vmem h_S1024x1024)) fun w =>
    ldSt wM (Memref.isWhole_whole _) (Rect.unit (s := S1024x1024) ![0, 0] S1024x1024.size inb_S1024x1024_S1024x1024_0_0) h_S1024x1024
      packedbf16_S1024x1024_S1024x1024_0_0 (k0_pay18 w) k
  | .acc8 p j, k =>
    .op (.load (r8M p) (row 4 p j).toLoadRect (View.loadsAt_vmem (shp_pos p))) fun r =>
    .op (.load tM (tR d p (dd p j)).toLoadRect (View.loadsAt_vmem (shp_pos p))) fun t =>
    ldSt (accM p) (accM_whole p) (row 8 p (dd p j)) (shp_pos p) (packed8b p _) (add8 p r t) k
  | .acc16 p j, k =>
    .op (.load (r16M p) (row 3 p j).toLoadRect (View.loadsAt_vmem (shp_pos p))) fun r =>
    .op (.load (accM p) (row 8 p (adst p j)).toLoadRect (View.loadsAt_vmem (shp_pos p))) fun a =>
    ldSt (accM p) (accM_whole p) (row 8 p (adst p j)) (shp_pos p) (packed8b p _) (add16 p r a) k
  | .out p i, k =>
    .op (.load (agM p) (row 8 p (ob p i)).toLoadRect (View.loadsAt_vmem (shp_pos p))) fun g =>
    ldSt outM (hstage0_2 0) (tR d p (ob p i)) (shp_pos p) (tR_packed d p (ob p i)) (dq3 p g) k

def steps (d : Dev nD) : List Op → PR F → PR F
  | [], k => k
  | o :: os, k => step d o (steps d os k)

abbrev rowsW0 : Rect S1024x1024 := Rect.unit (s := S1024x1024) ![0, 0] S384x1024.size inb_S1024x1024_S384x1024_0_0
abbrev rowsW1 : Rect S1024x1024 := Rect.unit (s := S1024x1024) ![384, 0] S384x1024.size inb_S1024x1024_S384x1024_384_0
abbrev rowsW2 : Rect S1024x1024 := Rect.unit (s := S1024x1024) ![768, 0] S256x1024.size inb_S1024x1024_S256x1024_768_0

/-- The product, and what is gathered of it. -/
abbrev product (k : FVec F S256x1024 .f32 → PR F) : PR F :=
  .op (.load (accM 0) (row 8 0 0).toLoadRect (View.loadsAt_vmem (shp_pos 0))) fun a0 =>
  .op (.load wM rowsW0.toLoadRect (View.loadsAt_vmem h_S384x1024)) fun w0 =>
  .op (.load (accM 1) (row 8 1 0).toLoadRect (View.loadsAt_vmem (shp_pos 1))) fun a1 =>
  .op (.load wM rowsW1.toLoadRect (View.loadsAt_vmem h_S384x1024)) fun w1 =>
  .op (.load (accM 2) (row 8 2 0).toLoadRect (View.loadsAt_vmem (shp_pos 2))) fun a2 =>
  .op (.load wM rowsW2.toLoadRect (View.loadsAt_vmem h_S256x1024)) fun w2 =>
  k (dot3 a0 w0 a1 w1 a2 w2)

abbrev putAg (p : Fin 3) (o : FVec F S256x1024 .f32) (k : PR F) : PR F :=
  ldSt (agM p) (agM_whole p) (row 8 p 0) (shp_pos p) (packed8i p 0) (q3 p o) k

abbrev putOut (d : Dev nD) (o : FVec F S256x1024 .f32) (k : PR F) : PR F :=
  ldSt outM (hstage0_2 0) (oR d) h_S256x1024 (k0_off4_packedbf16 d) (truncf .bf16 o bitsLt_bf16_f32) k

/-! ## The program -/

def groups : List (Fin 3) := [0, 1, 2]

/-- Up to the product. -/
def opsA : List Op :=
  [.sig 0, .sig 1, .sig 2,
   .quant 0 0, .quant 0 1, .quant 0 2, .quant 0 3, .bar, .start (.a 0 0), .start (.a 0 1), .start (.a 0 2), .start (.a 0 3),
   .quant 1 0, .quant 1 1, .quant 1 2, .quant 1 3, .start (.a 1 0), .start (.a 1 1), .start (.a 1 2), .start (.a 1 3),
   .quant 2 0, .quant 2 1, .quant 2 2, .quant 2 3, .start (.a 2 0), .start (.a 2 1), .start (.a 2 2), .start (.a 2 3),
   .wcopy]
  ++ groups.flatMap (fun p => [.recv (.a p 0), .acc8 p 0, .start (.b p 1)])
  ++ groups.flatMap (fun p => [.recv (.a p 1), .acc8 p 1, .start (.b p 0)])
  ++ groups.flatMap (fun p => [.recv (.a p 2), .acc8 p 2])
  ++ groups.flatMap (fun p => [.recv (.a p 3), .acc8 p 3])
  ++ groups.flatMap (fun p => [.recv (.b p 0), .acc16 p 0, .start (.b p 2)])
  ++ groups.flatMap (fun p => [.recv (.b p 1), .acc16 p 1])
  ++ groups.flatMap (fun p => [.recv (.b p 2), .acc16 p 2])

/-- The gathering's first sends. -/
def opsB : List Op := groups.flatMap (fun p => [.start (.g p 0), .start (.g p 1), .start (.g p 2)])

/-- The gathering. -/
def opsC : List Op :=
  groups.flatMap (fun p => [.recv (.g p 0), .start (.g p 3), .start (.g p 4)]) ++ groups.map (fun p => .out p 0)
  ++ groups.flatMap (fun p => [.recv (.g p 1), .start (.g p 5)]) ++ groups.map (fun p => .out p 1)
  ++ groups.flatMap (fun p => [.recv (.g p 3), .start (.g p 6)]) ++ groups.map (fun p => .out p 2)
  ++ groups.map (fun p => .recv (.g p 2)) ++ groups.map (fun p => .out p 3)
  ++ groups.map (fun p => .recv (.g p 4)) ++ groups.map (fun p => .out p 4)
  ++ groups.map (fun p => .recv (.g p 5)) ++ groups.map (fun p => .out p 5)
  ++ groups.map (fun p => .recv (.g p 6)) ++ groups.map (fun p => .out p 6)
  ++ groups.flatMap (fun p => [.sent (.a p 0), .sent (.g p 0), .sent (.a p 1), .sent (.g p 1), .sent (.a p 2), .sent (.g p 2),
      .sent (.a p 3), .sent (.g p 3), .sent (.b p 0), .sent (.g p 4), .sent (.b p 1), .sent (.g p 5), .sent (.b p 2), .sent (.g p 6)])

variable (F) in
def prog : PR F :=
  .op .deviceId fun d => steps d opsA (product fun o => putAg 0 o (putAg 1 o (putAg 2 o (steps d opsB (putOut d o (steps d opsC (.ret ⟨⟩)))))))

abbrev body : PR F :=
  cc0_body tM (hstage0_0 0) winM (hstage0_1 0) outM (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27

set_option maxHeartbeats 0 in
theorem body_eq : body (F := F) = prog F := rfl
-- ==== Proof.Sched.lean ====
/-
  # What each block holds, and the protocol of the semaphores

  The values a device's blocks hold, stage by stage, as functions of the devices' inputs; the semaphores as cells of one
  round each; what each cell's round pays; the order in which a device waits.
-/
module

public import proofs.«01_k».proof.Proof.Ops
public import Idealize.ShloMosaic.Lib.Rounds
public import Idealize.ShloMosaic.Lib.Pipeline.BigSepL

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Partners -/

/-- The device reached from `c` by exchange `r`. -/
def nb (r : Fin 8) (c : Dev nD) : Dev nD := (show Fin 8 from c) ^^^ r

theorem nb_nb (a b : Fin 8) (c : Dev nD) : nb a (nb b c) = nb (a ^^^ b) c := by revert a b c; decide +kernel
theorem nb_self (a : Fin 8) (c : Dev nD) : nb a (nb a c) = c := by revert a c; decide +kernel
theorem nb_zero (c : Dev nD) : nb 0 c = c := by revert c; decide +kernel
theorem partner_eq (c : Dev nD) (r : Fin 8) : partner c r = nb r c := by revert c r; decide +kernel

/-- Crossing an exchange twice returns. -/
def nbEquiv (r : Fin 8) : Dev nD ≃ Dev nD := ⟨nb r, nb r, nb_self r, nb_self r⟩

/-! ## Values -/

abbrev TBuf (F : FTy → Type) := (cc0_stg0_0 : Ref sig .tc).ty.Contents (Elt F)
abbrev WBuf (F : FTy → Type) := (cc0_stg1_0 : Ref sig .tc).ty.Contents (Elt F)

section Values

variable (T : Dev nD → TBuf F) (Wt : Dev nD → WBuf F)

/-- Device `c`'s own rows for the device `r` away. -/
def tV (p : Fin 3) (r : Fin 8) (c : Dev nD) : Vec F (shp p) .bf16 := (tM.access (tR c p r)).read (Elt F) (T c)
def sndV (p : Fin 3) (k : Fin 4) (c : Dev nD) : Vec F (shp p) .i8 := qz p (tV T p (dd p k ^^^ m1 p) c)
def A1 (p : Fin 3) (k : Fin 4) (c : Dev nD) : Vec F (shp p) .bf16 := add8 p (sndV T p k (nb (m1 p) c)) (tV T p (dd p k) c)
def A2 (p : Fin 3) (c : Dev nD) : Vec F (shp p) .bf16 := add16 p (A1 T p 1 (nb (X.bmsk p 0) c)) (A1 T p 2 c)
def B2 (p : Fin 3) (c : Dev nD) : Vec F (shp p) .bf16 := add16 p (A1 T p 0 (nb (X.bmsk p 1) c)) (A1 T p 3 c)
def B3 (p : Fin 3) (c : Dev nD) : Vec F (shp p) .bf16 := add16 p (A2 T p (nb (X.bmsk p 2) c)) (B2 T p c)
def wV (c : Dev nD) : (cc0_scratch0 : Ref sig .tc).ty.Contents (Elt F) := k0_pay18 (Wt c)
/-- The block of the product that device `c` computes. -/
def outV (c : Dev nD) : FVec F S256x1024 .f32 :=
  dot3 (B3 T 0 c) ((wM.access rowsW0).read (Elt F) (wV Wt c)) (B3 T 1 c) ((wM.access rowsW1).read (Elt F) (wV Wt c))
    (B3 T 2 c) ((wM.access rowsW2).read (Elt F) (wV Wt c))
def agV (p : Fin 3) (b : Fin 8) (c : Dev nD) : Vec F (shp p) .i8 := q3 p (outV T Wt (nb b c))

/-- What a transfer carries from device `c`. -/
def X.val : (x : X) → Dev nD → (shp x.grp).Idx → Elt F x.elt
  | .a p k, c => sndV T p k c
  | .b p j, c => match j with | 0 => A1 T p 1 c | 1 => A1 T p 0 c | 2 => A2 T p c
  | .g p i, c => agV T Wt p (X.gsrc p i) c

end Values

/-! ## Blocks -/

/-- The blocks the buffers are cut into. -/
inductive Blk where
  | snd (p : Fin 3) (k : Fin 4)
  | r8 (p : Fin 3) (k : Fin 4)
  | r16 (p : Fin 3) (j : Fin 3)
  /-- An accumulator block in use, one not used. -/
  | acc (p : Fin 3) (k : Fin 4)
  | acy (p : Fin 3) (k : Fin 4)
  | ag (p : Fin 3) (b : Fin 8)
  /-- A gathered block of the result, and the device's own. -/
  | ou (p : Fin 3) (i : Fin 7)
  | own
  deriving DecidableEq

namespace Blk

abbrev sh : Blk → Shape
  | snd p _ | r8 p _ | r16 p _ | acc p _ | acy p _ | ag p _ | ou p _ => shp p
  | own => S256x1024
abbrev elt : Blk → EltTy
  | snd _ _ | r8 _ _ | ag _ _ => .i8
  | r16 _ _ | acc _ _ | acy _ _ | ou _ _ | own => .bf16

abbrev mem (c : Dev nD) : (β : Blk) → Memref sig .tc .vmem β.sh β.elt
  | snd p k => (sndM p).slice (row 4 p k) (fun _ => rfl)
  | r8 p k => (r8M p).slice (row 4 p k) (fun _ => rfl)
  | r16 p j => (r16M p).slice (row 3 p j) (fun _ => rfl)
  | acc p k => (accM p).slice (row 8 p (dd p k)) (fun _ => rfl)
  | acy p k => (accM p).slice (row 8 p (dd p k ^^^ m1 p)) (fun _ => rfl)
  | ag p b => (agM p).slice (row 8 p b) (fun _ => rfl)
  | ou p i => outM.slice (tR c p (ob p i)) (fun _ => rfl)
  | own => outM.slice (oR c) (fun _ => rfl)

/-- What a block holds at a stage. -/
def val (T : Dev nD → TBuf F) (Wt : Dev nD → WBuf F) (c : Dev nD) : (β : Blk) → ℕ → β.sh.Idx → Elt F β.elt
  | snd p k, _ => sndV T p k c
  | r8 p k, _ => sndV T p k (nb (m1 p) c)
  | r16 p j, _ => match j with
    | 0 => A1 T p 1 (nb (X.bmsk p 0) c) | 1 => A1 T p 0 (nb (X.bmsk p 1) c) | 2 => A2 T p (nb (X.bmsk p 2) c)
  | acc p k, s => if s = 3 then B3 T p c else if s = 2 then (if k = 2 then A2 T p c else B2 T p c) else A1 T p k c
  | acy p k, _ => A1 T p k c
  | ag p b, _ => agV T Wt p b c
  | ou p i, _ => dq3 p (agV T Wt p (ob p i) c)
  | own, _ => truncf .bf16 (outV T Wt c) bitsLt_bf16_f32

end Blk

/-- A transfer's source block, the stage it is sent at, the share of it that travels; its target block. -/
abbrev X.srcB : X → Blk | .a p k => .snd p k | .b p j => .acc p (bk j) | .g p i => .ag p (gsrc p i)
abbrev X.srcS : X → ℕ | .a _ _ => 1 | .b _ j => ![1, 1, 2] j | .g _ _ => 1
abbrev X.gq : Fin 7 → Fin 4 := ![1, 2, 3, 1, 2, 1, 1]
abbrev X.srcQ : X → Fin 4 | .a _ _ => 0 | .b _ _ => 0 | .g _ i => gq i
abbrev X.dstB : X → Blk | .a p k => .r8 p k | .b p j => .r16 p j | .g p i => .ag p (gsrc p i ^^^ gmsk p i)

/-- The shares: the whole, and a third each. -/
abbrev shr : Fin 4 → PosShare TreeShare
  | 0 => fullShare | 1 => fullShare.left | 2 => fullShare.right.left | 3 => fullShare.right.right

/-! ## Cells -/

abbrev UB := URounds (GSem nD τ sig) (Fin 3)
abbrev UU := UR sig nD τ × UB
local notation "𝕄" => MT nD τ sig Unit (Elt F) ℕ UU ℕ
abbrev ER : Emb UB 𝕄 := embR

/-- A device's cells: its barrier semaphore, and each transfer's two. -/
abbrev Cell := Option (Bool × X)

abbrev osem : Bool × X → SemLoc sig
  | (false, x) => .dma x.sS
  | (true, x) => .dma x.rS
abbrev csem : Cell → SemLoc sig
  | none => .reg barSem
  | some bx => osem bx

abbrev allBX : List (Bool × X) := (X.all.map fun x => (false, x)) ++ X.all.map fun x => (true, x)
abbrev allCells : List Cell := none :: allBX.map some

/-- The cell a semaphore is. -/
def decode (s : SemLoc sig) : Option Cell := allCells.find? fun k => csem k = s

theorem decode_all : (allCells.all fun k => decide (decode (csem k) = some k)) = true := by decide +kernel
theorem mem_allBX (bx : Bool × X) : bx ∈ allBX := by
  obtain ⟨b, x⟩ := bx
  rcases b with _ | _
  · exact List.mem_append_left _ (List.mem_map.mpr ⟨x, X.mem_all x, rfl⟩)
  · exact List.mem_append_right _ (List.mem_map.mpr ⟨x, X.mem_all x, rfl⟩)
theorem mem_allCells : (k : Cell) → k ∈ allCells
  | none => List.mem_cons_self
  | some bx => List.mem_cons_of_mem _ (List.mem_map.mpr ⟨bx, mem_allBX bx, rfl⟩)
theorem decode_csem (k : Cell) : decode (csem k) = some k := of_decide_eq_true (List.all_eq_true.mp decode_all k (mem_allCells k))
theorem csem_inj : Function.Injective csem := fun a b h => Option.some.inj (by rw [← decode_csem a, ← decode_csem b, h])

abbrev gcell (c : Dev nD) (k : Cell) : GSem nD τ sig := ((c : Thread nD τ), csem k)
theorem gcell_inj {c c' : Dev nD} {k k' : Cell} (h : gcell c k = gcell c' k') : c = c' ∧ k = k' :=
  ⟨congrArg (fun g : GSem nD τ sig => g.1.1) h, csem_inj (congrArg Prod.snd h)⟩

/-- A transfer's credit. -/
abbrev X.N (x : X) : ℕ := x.dst.view.dmaCredit
theorem X.N_pos (x : X) : 0 < x.N := View.dmaCredit_pos _ (shp_pos x.grp)
theorem X.N_src : (x : X) → x.src.view.dmaCredit = x.N
  | .a p k => by match p with | 0 | 1 | 2 => rfl
  | .b p j => by match p with | 0 | 1 | 2 => rfl
  | .g p i => rfl

def amt : Cell → ℕ | none => 1 | some (_, x) => x.N
theorem amt_pos : (k : Cell) → 0 < amt k | none => Nat.one_pos | some (_, x) => x.N_pos

/-- The transfers over exchange `r`. -/
def xsOf (r : Fin 8) : List X := X.all.filter fun x => x.mask = r

/-- A landing block on the partner, whatever it holds. -/
def Land (c : Dev nD) (x : X) : sProp 𝕄 :=
  iprop(∃ V, owns (nb x.mask c : Thread nD τ) x.dst fullShare V)

instance Land_storable (c : Dev nD) (x : X) : BI.Storable (upEmb : UEmb _ 𝕄) (Land (F := F) c x) := by unfold Land; infer_instance

theorem storableL {I : Type} (Φ : I → sProp 𝕄) [h : ∀ i, BI.Storable (upEmb : UEmb _ 𝕄) (Φ i)] : (l : List I) → BI.Storable (upEmb : UEmb _ 𝕄) (bigSepL l Φ)
  | [] => (inferInstance : BI.Storable (upEmb : UEmb _ 𝕄) (iprop(emp) : sProp 𝕄))
  | i :: l => by have := storableL Φ l; rw [bigSepL_cons']; infer_instance

section Sched

variable (T : Dev nD → TBuf F) (Wt : Dev nD → WBuf F)

/-- What duty `e` of a cell pays to its device. -/
def pay (c : Dev nD) (e : Fin 3) : Option Cell → sProp 𝕄
  | none => iprop(emp)
  | some none => bigSepL (xsOf (mk e)) (Land c)
  | some (some (false, x)) => owns (c : Thread nD τ) x.src (shr x.srcQ) (x.val T Wt c)
  | some (some (true, x)) => owns (c : Thread nD τ) x.dst fullShare (x.val T Wt (nb x.mask c))

instance pay_storable (c : Dev nD) (e : Fin 3) : (k : Option Cell) → BI.Storable (upEmb : UEmb _ 𝕄) (pay T Wt c e k)
  | none => (inferInstance : BI.Storable (upEmb : UEmb _ 𝕄) (iprop(emp) : sProp 𝕄))
  | some none => storableL _ _
  | some (some (false, x)) => by unfold pay; infer_instance
  | some (some (true, x)) => by unfold pay; infer_instance

def dutiesOf : Option Cell → Finset (Fin 3)
  | none => ∅ | some none => Finset.univ | some (some _) => {0}

/-- One round: a barrier cell has three duties of one unit, one for each partner; a transfer's cell the one duty of its credit. -/
def Rd : Rounds.Schedule (GSem nD τ sig) (Fin 3) 𝕄 where
  duties g r := if r = 0 ∧ g.1.2 = .tc then dutiesOf (decode g.2) else ∅
  unitless _ := False
  amount g _ _ := ((decode g.2).map amt).getD 1
  payload g _ e := pay T Wt g.1.1 e (decode g.2)
  amount_pos g _ _ _ := by
    cases decode g.2 with
    | none => exact Nat.one_pos
    | some k => exact amt_pos k

instance Rd_payload_storable (g : GSem nD τ sig) (r : ℕ) (e : Fin 3) : BI.Storable (upEmb : UEmb _ 𝕄) ((Rd T Wt).payload g r e) :=
  pay_storable T Wt _ _ _

theorem duties_cell (c : Dev nD) (k : Cell) : (Rd T Wt).duties (gcell c k) 0 = dutiesOf (some k) := by
  rw [← decode_csem k]; dsimp only [Rd]; exact if_pos ⟨rfl, rfl⟩
theorem duties_later (g : GSem nD τ sig) : ∀ r, 1 ≤ r → (Rd T Wt).duties g r = ∅ :=
  fun r hr => if_neg fun h => by omega
theorem amount_cell (c : Dev nD) (k : Cell) (e : Fin 3) : (Rd T Wt).amount (gcell c k) 0 e = amt k := by
  show ((decode (csem k)).map amt).getD 1 = _; rw [decode_csem]; rfl
theorem payload_cell (c : Dev nD) (k : Cell) (e : Fin 3) : (Rd T Wt).payload (gcell c k) 0 e = pay T Wt c e (some k) := by
  rw [← decode_csem k]; rfl

theorem expect_bar (c : Dev nD) : (Rd T Wt).expect (gcell c none) 0 = 3 := by
  unfold Schedule.expect Schedule.amountOf
  rw [duties_cell, Finset.sum_congr rfl fun d _ => amount_cell T Wt c none d]; rfl
theorem expect_xf (c : Dev nD) (bx : Bool × X) : (Rd T Wt).expect (gcell c (some bx)) 0 = bx.2.N := by
  unfold Schedule.expect Schedule.amountOf
  rw [duties_cell, Finset.sum_congr rfl fun d _ => amount_cell T Wt c _ d]; exact Finset.sum_singleton _ _

theorem rest_xf (c : Dev nD) (bx : Bool × X) :
    bigSep ((Rd T Wt).duties (gcell c (some bx)) 0 \ ∅) (fun d => (Rd T Wt).payload (gcell c (some bx)) 0 d) = pay T Wt c 0 (some (some bx)) := by
  rw [Finset.sdiff_empty, duties_cell]; show bigSep {0} _ = _; rw [bigSep_singleton, payload_cell]
theorem rest_bar (c : Dev nD) :
    bigSep ((Rd T Wt).duties (gcell c none) 0 \ ∅) (fun d => (Rd T Wt).payload (gcell c none) 0 d)
      = bigSepL [0, 1, 2] fun e => bigSepL (xsOf (mk e)) (Land (F := F) c) := by
  rw [Finset.sdiff_empty, duties_cell, bigSep_congr fun e _ => payload_cell T Wt c none e]
  exact bigSep_eq_bigSepL_of_eq [0, 1, 2] (by decide) (by decide) _

end Sched

/-! ## What a device owes, and the levels -/

/-- What a device pays another: a barrier signal, a transfer's arrival. -/
inductive Due where
  | sg (e : Fin 3)
  | xf (x : X)
  deriving DecidableEq

namespace Due
abbrev cell (c : Dev nD) : Due → GSem nD τ sig
  | sg e => gcell (nb (mk e) c) none
  | xf x => gcell (nb x.mask c) (some (true, x))
abbrev amt : Due → ℕ | sg _ => 1 | xf x => x.N
/-- The order of payments: every device waits on a cell only while it owes to later ones. -/
def lev (o : List X) : Due → ℕ | sg _ => 1 | xf x => 2 + o.idxOf x
end Due

def started : Op → Option X | .start x => some x | _ => none
/-- The transfers in the order they start. -/
def order : List X := (opsA ++ opsB ++ opsC).filterMap started

def dues : List Due := [.sg 0, .sg 1, .sg 2] ++ order.map .xf

/-- What device `c` still owes, the next payment first. -/
def owed (c : Dev nD) : List Due → CellTallies nD τ sig Unit
  | [] => 0
  | d :: l => owed c l + tallyAt (d.cell c) () d.amt

def L (g : GSem nD τ sig) : Finset Unit := if g.1.2 = .tc then {()} else ∅
def levC : Option Cell → ℕ
  | some none => 1 | some (some (true, x)) => 2 + order.idxOf x | _ => 0
def lv (g : GSem nD τ sig) (_ : Unit) : ℕ := levC (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (gcell c k) u = levC (some k) := by unfold lv; rw [decode_csem]
theorem lv_due (c : Dev nD) (u : Unit) : (d : Due) → lv (d.cell c) u = d.lev order
  | .sg e => lv_cell _ none u
  | .xf x => lv_cell _ (some (true, x)) u

theorem owed_pos {c : Dev nD} {g : GSem nD τ sig} {u : Unit} : {l : List Due} → 0 < owed c l g u → ∃ d ∈ l, g = d.cell c
  | [], h => absurd h (Nat.lt_irrefl 0)
  | d :: l, h => by
    unfold owed at h
    rw [Pi.add_apply, Finsupp.add_apply, tallyAt_apply] at h
    by_cases hd : g = d.cell c ∧ u = ()
    · exact ⟨d, List.mem_cons_self, hd.1⟩
    · rw [if_neg hd] at h
      obtain ⟨d', h', e⟩ := owed_pos (l := l) h
      exact ⟨d', List.mem_cons_of_mem _ h', e⟩

/-- A wait is allowed while everything owed lies above what is waited on. -/
theorem mayWait (c : Dev nD) (s : SemLoc sig) (n : ℕ) (hs : levC (decode s) = n) (l : List Due) (hl : ∀ d ∈ l, n < d.lev order) :
    (levAts L lv : sProp 𝕄) ⊢ MayWait (c : Thread nD τ) s () (owed c l) :=
  MayOwe.of_cut (L := L) (lev := lv) n
    (fun p hp => by rw [Finset.mem_singleton.mp hp, L_tc]; exact Finset.mem_singleton_self _)
    (fun g u hg => by obtain ⟨d, _, rfl⟩ := owed_pos hg; cases d <;> exact Finset.mem_singleton_self _)
    (fun p hp => by rw [Finset.mem_singleton.mp hp]; exact hs.le)
    (fun g u hg => by obtain ⟨d, hd, rfl⟩ := owed_pos hg; rw [lv_due]; exact hl d hd)

end Cert.KProof

end
-- ==== Proof.Steps.lean ====
/-
  # What a step takes and leaves

  A device's holdings are a list of items: a transfer's tokens, a landing block of a partner, a block at a stage, the
  windows. Every step takes some items and leaves others; `step_sound` proves it of the program logic, and `steps_sound`
  runs a list of steps by running it on the list of items.
-/
module

public import proofs.«01_k».proof.Proof.Sched
public import Idealize.ShloMosaic.Lib.Memref
public import Idealize.ShloMosaic.Lib.MemrefSat

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
abbrev 𝒱₀ : Variants := Variants.none

variable (T : Dev nD → TBuf F) (Wt : Dev nD → WBuf F)

/-! ## Items -/

inductive Res where
  /-- A transfer's sending side: before it starts, in flight, done. -/
  | S0 (x : X) | S1 (x : X) | S2 (x : X)
  /-- Its receiving side: before the arrival is waited for, after. -/
  | R0 (x : X) | R1 (x : X)
  /-- The partner's landing block. -/
  | Ld (x : X)
  /-- The barrier: before its wait, after; the right to signal a partner. -/
  | B0 | B1 | G (e : Fin 3)
  /-- A block at a stage (`0`: contents unknown), a share of it. -/
  | blk (β : Blk) (s : ℕ) (q : Fin 4)
  /-- The device's rows, the weights, the kept copy of the weights. -/
  | tin | win | wbf (b : Bool)
  deriving DecidableEq

/-- A block at a stage. -/
def blkAt (c : Dev nD) (β : Blk) (s : ℕ) (q : Fin 4) : sProp 𝕄 :=
  match s with
  | 0 => iprop(∃ V, owns (c : Thread nD τ) (β.mem c) (shr q) V)
  | s + 1 => owns (c : Thread nD τ) (β.mem c) (shr q) (β.val T Wt c (s + 1))

def atom (c : Dev nD) : Res → sProp 𝕄
  | .S0 x => iprop(dutyTok ER (gcell c (some (false, x))) 0 0 ∗ dutyTok ER (gcell (nb x.mask c) (some (true, x))) 0 0
      ∗ atPos ER (gcell c (some (false, x))) 0 ∅ 0)
  | .S1 x => iprop(cred (tallyAt (gcell c (some (false, x))) () x.N) ∗ atPos ER (gcell c (some (false, x))) 0 ∅ 0)
  | .S2 x => semVal (gcell c (some (false, x))) 0
  | .R0 x => iprop(cred (tallyAt (gcell c (some (true, x))) () x.N) ∗ atPos ER (gcell c (some (true, x))) 0 ∅ 0)
  | .R1 x => semVal (gcell c (some (true, x))) 0
  | .Ld x => Land c x
  | .B0 => iprop(cred (tallyAt (gcell c none) () 3) ∗ atPos ER (gcell c none) 0 ∅ 0)
  | .B1 => semVal (gcell c none) 0
  | .G e => dutyTok ER (gcell (nb (mk e) c) none) 0 e
  | .blk β s q => blkAt T Wt c β s q
  | .tin => iprop(((c : Thread nD τ).loc cc0_stg0_0) ↦{fullShare} T c)
  | .win => iprop(((c : Thread nD τ).loc cc0_stg1_0) ↦{fullShare} Wt c)
  | .wbf false => iprop(∃ f, ((c : Thread nD τ).loc cc0_scratch0) ↦{fullShare} f)
  | .wbf true => iprop(((c : Thread nD τ).loc cc0_scratch0) ↦{fullShare} wV Wt c)

/-- A list of items. -/
abbrev St (c : Dev nD) (rs : List Res) : sProp 𝕄 := bigSepL rs (atom T Wt c)

/-- What every device knows: the cells' invariants, that each is at its first round, the levels. -/
def Ctx (K : Dev nD × Cell → ℕ) : sProp 𝕄 :=
  iprop((bigSep Finset.univ fun ck : Dev nD × Cell => cellInv ER (Rd T Wt) (K ck) (gcell ck.1 ck.2))
    ∗ (bigSep Finset.univ fun ck : Dev nD × Cell => reached ER (gcell ck.1 ck.2) 0) ∗ levAts L lv)

instance Ctx_persistent (K : Dev nD × Cell → ℕ) : BI.Persistent (Ctx T Wt K) := by unfold Ctx; infer_instance

theorem Ctx_inv (K : Dev nD × Cell → ℕ) (c : Dev nD) (k : Cell) : Ctx T Wt K ⊢ cellInv ER (Rd T Wt) (K (c, k)) (gcell c k) := by
  unfold Ctx; iintro ⟨H, -, -⟩
  iapply (show (bigSep Finset.univ fun ck : Dev nD × Cell => cellInv ER (Rd T Wt) (K ck) (gcell ck.1 ck.2)) ⊢ cellInv ER (Rd T Wt) (K (c, k)) (gcell c k)
    from bigSep_elim (Finset.mem_univ (c, k)))
  iexact H
theorem Ctx_reached (K : Dev nD × Cell → ℕ) (c : Dev nD) (k : Cell) : Ctx T Wt K ⊢ reached ER (gcell c k) 0 := by
  unfold Ctx; iintro ⟨-, H, -⟩
  iapply (show (bigSep Finset.univ fun ck : Dev nD × Cell => (reached ER (gcell ck.1 ck.2) 0 : sProp 𝕄)) ⊢ reached ER (gcell c k) 0
    from bigSep_elim (Finset.mem_univ (c, k)))
  iexact H
theorem Ctx_lev (K : Dev nD × Cell → ℕ) : Ctx T Wt K ⊢ (levAts L lv : sProp 𝕄) := by
  unfold Ctx; iintro ⟨-, -, H⟩; iexact H

/-- What the device owes. -/
def Ow (c : Dev nD) (l : List Due) : sProp 𝕄 := iprop(∃ W, owes (c : Thread nD τ) (owed c l) W)

/-! ## What a step takes and leaves -/

def got : X → List Res
  | .a p k => [.blk (.r8 p k) 1 0]
  | .b p j => [.blk (.r16 p j) 1 0]
  | .g p i => [.blk (.ag p (X.gsrc p i ^^^ X.gmsk p i)) 1 1, .blk (.ag p (X.gsrc p i ^^^ X.gmsk p i)) 1 2,
      .blk (.ag p (X.gsrc p i ^^^ X.gmsk p i)) 1 3]

/-- The stage of the accumulator block a later transfer is added to. -/
abbrev accS : Fin 3 → ℕ := ![1, 1, 2]

def pre : Op → List Res
  | .sig e => .G e :: (xsOf (mk e)).map fun x => .blk x.dstB 0 0
  | .quant p k => [.tin, .blk (.snd p k) 0 0]
  | .bar => [.B0]
  | .start x => [.S0 x, .Ld x, .blk x.srcB x.srcS x.srcQ]
  | .recv x => [.R0 x]
  | .sent x => [.S1 x]
  | .wcopy => [.win, .wbf false]
  | .acc8 p k => [.tin, .blk (.r8 p k) 1 0, .blk (.acc p k) 0 0]
  | .acc16 p j => [.blk (.r16 p j) 1 0, .blk (.acc p (ak j)) (accS j) 0]
  | .out p i => [.blk (.ag p (ob p i)) 1 3, .blk (.ou p i) 0 0]

def post : Op → List Res
  | .sig e => []
  | .quant p k => [.tin, .blk (.snd p k) 1 0]
  | .bar => .B1 :: [0, 1, 2].flatMap fun e => (xsOf (mk e)).map .Ld
  | .start x => [.S1 x]
  | .recv x => .R1 x :: got x
  | .sent x => [.S2 x, .blk x.srcB x.srcS x.srcQ]
  | .wcopy => [.win, .wbf true]
  | .acc8 p k => [.tin, .blk (.r8 p k) 1 0, .blk (.acc p k) 1 0]
  | .acc16 p j => [.blk (.r16 p j) 1 0, .blk (.acc p (ak j)) (accS j + 1) 0]
  | .out p i => [.blk (.ag p (ob p i)) 1 3, .blk (.ou p i) 1 0]

/-- What is owed after a step; a wait needs everything owed to lie above it. -/
def next : Op → List Due → Option (List Due)
  | .sig e, d :: l => if d = .sg e then some l else none
  | .start x, d :: l => if d = .xf x then some l else none
  | .sig _, [] => none
  | .start _, [] => none
  | .bar, l => if ∀ d ∈ l, 1 < d.lev order then some l else none
  | .recv x, l => if ∀ d ∈ l, 2 + order.idxOf x < d.lev order then some l else none
  | .sent x, l => if ∀ d ∈ l, 0 < d.lev order then some l else none
  | .quant _ _, l | .wcopy, l | .acc8 _ _, l | .acc16 _ _, l | .out _ _, l => some l

def takeAll : List Res → List Res → Option (List Res)
  | [], rs => some rs
  | a :: l, rs => if a ∈ rs then takeAll l (rs.erase a) else none

def exec : List Op → List Res → List Due → Option (List Res × List Due)
  | [], rs, l => some (rs, l)
  | o :: os, rs, l => (next o l).bind fun l' => (takeAll (pre o) rs).bind fun rs' => exec os (post o ++ rs') l'

/-! ## Loads and stores of blocks -/

section Rules

variable {c : Dev nD}

/-- The program logic's judgement on device `c`. -/
abbrev wpk (c : Dev nD) (k : PR F) (Q : PUnit → sProp 𝕄) : sProp 𝕄 := wp frame (wpE (defs₀ (F := F)) 𝒱₀ (c : Thread nD τ) none) Set.univ k Q

theorem load_owns {s : Shape} {e : EltTy} (m : Memref sig .tc .vmem s e) (r : Rect s) (hu : ∀ a, r.stride a = 1) {hl : m.view.LoadsAt r.toLoadRect}
    {q : PosShare TreeShare} {V : r.shape.Idx → Elt F e} {k : (r.shape.Idx → Elt F e) → PR F} {Q : PUnit → sProp 𝕄} :
    owns (c : Thread nD τ) (m.slice r hu) q V
      ⊢ iprop((owns (c : Thread nD τ) (m.slice r hu) q V -∗ wpk c (k V) Q) -∗ wpk c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  rw [show (m.access r).read (Elt F) f = V from hf]
  iapply Hk
  iexists f
  isplitr
  · ipureintro; exact hf
  · iexact H

theorem ldSt_owns {s : Shape} {e : EltTy} {m : Memref sig .tc .vmem s e} {hm : m.IsWhole} {r : Rect s} {hu : ∀ a, r.stride a = 1} {h : 0 < r.shape.numel}
    {hp : r.PackedRows e.packing} {V w : r.shape.Idx → Elt F e} {k : PR F} {Q : PUnit → sProp 𝕄} :
    owns (c : Thread nD τ) (m.slice r hu) fullShare V
      ⊢ iprop((owns (c : Thread nD τ) (m.slice r hu) fullShare w -∗ wpk c k Q) -∗ wpk c (ldSt m hm r h hp w k) Q) := by
  unfold owns
  iintro ⟨%f, %hf, H⟩ Hk
  iapply (wp_load_rect 𝒱₀ (c : Thread nD τ) none Set.univ (m := m) (r := r) (Finset.Subset.refl _)) $$ H
  iintro H
  iapply (wp_store 𝒱₀ (c : Thread nD τ) none Set.univ (m := m) (r := r) (Mk := Finset.univ) (S := (m.access r).set) (Finset.Subset.refl _)) $$ H
  iintro H
  iapply Hk
  iexists _
  isplitr
  · ipureintro; exact View.read_write_univ (v := m.access r) f w
  · iexact H

theorem load_pts {s : Shape} {e : EltTy} {m : Memref sig .tc .vmem s e} {r : Rect s} {hl : m.view.LoadsAt r.toLoadRect}
    {f : Buf (Elt F) ((m.access r).loc (c : Thread nD τ))} {k : (r.shape.Idx → Elt F e) → PR F} {Q : PUnit → sProp 𝕄} :
    ((m.access r).loc (c : Thread nD τ) ↦{fullShare} f)
      ⊢ iprop((((m.access r).loc (c : Thread nD τ) ↦{fullShare} f) -∗ wpk c (k ((m.access r).read (Elt F) f)) Q)
        -∗ wpk c (.op (.load m r.toLoadRect hl) k) Q) :=
  wp_load_rect 𝒱₀ (c : Thread nD τ) none Set.univ (m := m) (r := r) (Finset.subset_univ _)

/-! ## Each step -/

variable (K : Dev nD × Cell → ℕ) {k : PR F}

theorem blk_any (β : Blk) (s : ℕ) (q : Fin 4) : blkAt T Wt c β s q ⊢ iprop(∃ V, owns (c : Thread nD τ) (β.mem c) (shr q) V) := by
  cases s with
  | zero => exact .rfl
  | succ s => unfold blkAt; iintro H; iexists _; iexact H

theorem blk_dst (x : X) : blkAt T Wt c x.dstB 0 0 ⊢ iprop(∃ V, owns (c : Thread nD τ) x.dst fullShare V) := by
  cases x <;> exact .rfl
theorem blk_src (x : X) : blkAt T Wt c x.srcB x.srcS x.srcQ = owns (c : Thread nD τ) x.src (shr x.srcQ) (x.val T Wt c) := by
  match x with
  | .a p k => rfl
  | .b p j => match j with | 0 | 1 | 2 => rfl
  | .g p i => rfl

/-- What arrives is the block the partner sent, as this device counts. -/
theorem got_intro (x : X) : owns (c : Thread nD τ) x.dst fullShare (x.val T Wt (nb x.mask c)) ⊢ St T Wt c (got x) := by
  match x with
  | .a p k => exact .rfl
  | .b p j => match j with | 0 | 1 | 2 => exact .rfl
  | .g p i =>
    have hv : (X.g p i).val T Wt (nb (X.g p i).mask c) = (Blk.ag p (X.gsrc p i ^^^ X.gmsk p i)).val T Wt c 1 := by
      show agV T Wt p (X.gsrc p i) (nb (X.gmsk p i) c) = agV T Wt p (X.gsrc p i ^^^ X.gmsk p i) c
      unfold agV; rw [nb_nb]
    rw [hv]
    exact (owns_halves (c : Thread nD τ) (X.g p i).dst fullShare _).1.trans
      (sep_mono_right (owns_halves (c : Thread nD τ) (X.g p i).dst fullShare.right _).1)

variable {Wt T}

theorem sound_sig (e : Fin 3) (l : List Due) {Q : PUnit → sProp 𝕄} :
    Ctx T Wt K ⊢ iprop((St T Wt c (pre (.sig e)) ∗ Ow (F := F) c (.sg e :: l))
      -∗ ((St T Wt c (post (.sig e)) ∗ Ow (F := F) c l) -∗ wpk c k Q) -∗ wpk c (step c (.sig e) k) Q) := by
  rw [show St T Wt c (post (.sig e)) = iprop(emp) from rfl,
    show St T Wt c (pre (.sig e)) = iprop(dutyTok ER (gcell (nb (mk e) c) none) 0 e ∗ bigSepL (xsOf (mk e)) fun x => blkAt T Wt c x.dstB 0 0) from
      (bigSepL_cons' _ _ _).trans (by rw [bigSepL_map]; rfl)]
  unfold Ow
  rw [show step c (.sig e) k = .op (.semSignal (partner c (mk e), .tc) barSem (1#32 : BitVec 32).toInt) fun _ => k from rfl, partner_eq]
  have hd := duties_cell T Wt (nb (mk e) c) none
  have hp := payload_cell T Wt (nb (mk e) c) none e
  iintro #HC ⟨⟨HG, HL⟩, ⟨%W, HO⟩⟩ Hk
  iapply (Rounds.wp_signal 𝒱₀ ER (Rd T Wt) (c : Thread nD τ) none (dst := (nb (mk e) c : Thread nD τ)) (κ := K (nb (mk e) c, none))
      (r := 0) (d := e) (by rw [hd]; exact Finset.mem_univ _) ((amount_cell T Wt _ none e).trans (by decide)) () (owed c l) rfl)
    $$ [HG HL HO]
  · isplitr; · iapply (Ctx_inv T Wt K (nb (mk e) c) none); iexact HC
    isplitl [HO]; · iexact HO
    isplitl [HG]; · iexact HG
    isplitl [HL]
    · rw [hp, show pay T Wt (nb (mk e) c) e (some none) = bigSepL (xsOf (mk e)) (Land (F := F) (nb (mk e) c)) from rfl]
      iapply (show bigSepL (xsOf (mk e)) (fun x => blkAt T Wt c x.dstB 0 0) ⊢ bigSepL (xsOf (mk e)) (Land (F := F) (nb (mk e) c)) from
        bigSepL_mono fun x hx => by
          have hm : x.mask = mk e := of_decide_eq_true (List.mem_filter.mp hx).2
          refine (blk_dst T Wt x).trans ?_
          unfold Land
          rw [hm, nb_self])
      iexact HL
    iapply (Ctx_reached T Wt K (nb (mk e) c) none); iexact HC
  iintro HO
  iapply Hk
  isplitr
  · iempintro
  iexists W; iexact HO

theorem sound_bar (l : List Due) (hl : ∀ d ∈ l, 1 < d.lev order) {Q : PUnit → sProp 𝕄} :
    Ctx T Wt K ⊢ iprop((St T Wt c (pre .bar) ∗ Ow (F := F) c l)
      -∗ ((St T Wt c (post .bar) ∗ Ow (F := F) c l) -∗ wpk c k Q) -∗ wpk c (step c .bar k) Q) := by
  rw [show St T Wt c (pre .bar) = iprop(cred (tallyAt (gcell c none) () 3) ∗ atPos ER (gcell c none) 0 ∅ 0) from rfl,
    show St T Wt c (post .bar) = iprop(semVal (gcell c none) 0 ∗ bigSepL [0, 1, 2] (fun e => bigSepL (xsOf (mk e)) (Land (F := F) c))) from
      (bigSepL_cons' _ _ _).trans (by
        simp only [List.flatMap_cons, List.flatMap_nil, List.append_nil, bigSepL_append, bigSepL_map]; rfl)]
  unfold Ow
  rw [show step c .bar k = .op (.semWait barSem (3#32 : BitVec 32).toInt) fun _ => k from rfl]
  iintro #HC ⟨⟨Hc, Hat⟩, ⟨%W, HO⟩⟩ Hk
  iapply (Rounds.wp_wait_rest_token 𝒱₀ ER (Rd T Wt) (c : Thread nD τ) none (κ := K (c, none))
      (wpE_semWait_eq 𝒱₀ (c : Thread nD τ) none Set.univ) (Set.mem_univ _) () (O := owed c l) (W := W) (R := 0) (m := 0) (T := ∅)
      (by rw [expect_bar]; decide)) $$ [Hc HO Hat]
  · isplitr; · iapply (Ctx_inv T Wt K c none); iexact HC
    isplitl [Hc]; · iexact Hc
    isplitl [HO]; · iexact HO
    isplitr
    · iapply (mayWait c (csem none) 1 (by rw [decode_csem]; rfl) l hl)
      iapply (Ctx_lev T Wt K); iexact HC
    iexact Hat
  iintro ⟨HO, Hat, -, Hpay⟩
  ihave Hp := (Entails.of_eq (rest_bar T Wt c)) $$ Hpay
  imod (Rounds.cell_close ER (Rd T Wt) (Set.mem_univ (K (c, none))) (fun h => h) (R := 0 + 1) (duties_later T Wt (gcell c none))) $$ [Hat] with Hz
  · isplitr; · iapply (Ctx_inv T Wt K c none); iexact HC
    iexact Hat
  iapply Hk
  isplitr [HO]
  · isplitl [Hz]; · iexact Hz
    iexact Hp
  iexists _; iexact HO

/-- Waiting for a transfer, on either side: its round's payment, and the counter at zero again. -/
theorem sound_wait (bx : Bool × X) (l : List Due) (n : ℕ) (hn : levC (some (some bx)) = n) (hl : ∀ d ∈ l, n < d.lev order) {Q : PUnit → sProp 𝕄}
    {sm : DmaSem sig} (hs : SemLoc.dma sm = osem bx)
    {sh : Shape} {e : EltTy} {a b : Memref sig .tc .vmem sh e} {ha : a.view.WordExact} {hb : b.view.WordExact}
    (hN : b.view.dmaCredit = bx.2.N) :
    Ctx T Wt K ⊢ iprop(((cred (tallyAt (gcell c (some bx)) () bx.2.N) ∗ atPos ER (gcell c (some bx)) 0 ∅ 0) ∗ Ow (F := F) c l)
      -∗ (((semVal (gcell c (some bx)) 0 ∗ pay T Wt c 0 (some (some bx))) ∗ Ow (F := F) c l) -∗ wpk c k Q)
      -∗ wpk c (.op (.waitDma2 sm a b ha hb) fun _ => k) Q) := by
  unfold Ow
  iintro #HC ⟨⟨Hc, Hat⟩, ⟨%W, HO⟩⟩ Hk
  have hg : gcell c (some bx) = ((c : Thread nD τ), SemLoc.dma sm) := by rw [hs]
  have hx := expect_xf T Wt c bx
  have hr := rest_xf T Wt c bx
  rw [hg] at hx hr
  iapply (Rounds.wp_wait_rest_token 𝒱₀ ER (Rd T Wt) (c : Thread nD τ) none (κ := K (c, some bx))
      (wpE_waitDma2_eq 𝒱₀ (c : Thread nD τ) none Set.univ) (Set.mem_univ _) () (O := owed c l) (W := W) (R := 0) (m := 0) (T := ∅)
      (by rw [Nat.zero_add, hx, hN])) $$ [Hc HO Hat]
  · isplitr; · rw [← hg]; iapply (Ctx_inv T Wt K c (some bx)); iexact HC
    isplitl [Hc]; · rw [← hg, hN]; iexact Hc
    isplitl [HO]; · iexact HO
    isplitr
    · iapply (mayWait c (SemLoc.dma sm) n (by rw [hs, show osem bx = csem (some bx) from rfl, decode_csem]; exact hn) l hl)
      iapply (Ctx_lev T Wt K); iexact HC
    rw [← hg]; iexact Hat
  iintro ⟨HO, Hat, -, Hpay⟩
  ihave Hp := (Entails.of_eq hr) $$ Hpay
  rw [← hg]
  imod (Rounds.cell_close ER (Rd T Wt) (Set.mem_univ (K (c, some bx))) (fun h => h) (R := 0 + 1) (duties_later T Wt (gcell c (some bx)))) $$ [Hat] with Hz
  · isplitr; · iapply (Ctx_inv T Wt K c (some bx)); iexact HC
    iexact Hat
  iapply Hk
  isplitr [HO]
  · isplitl [Hz]; · iexact Hz
    iexact Hp
  iexists _; iexact HO

theorem sound_recv (x : X) (l : List Due) (hl : ∀ d ∈ l, 2 + order.idxOf x < d.lev order) {Q : PUnit → sProp 𝕄} :
    Ctx T Wt K ⊢ iprop((St T Wt c (pre (.recv x)) ∗ Ow (F := F) c l)
      -∗ ((St T Wt c (post (.recv x)) ∗ Ow (F := F) c l) -∗ wpk c k Q) -∗ wpk c (step c (.recv x) k) Q) := by
  rw [show St T Wt c (pre (.recv x)) = iprop(cred (tallyAt (gcell c (some (true, x))) () x.N) ∗ atPos ER (gcell c (some (true, x))) 0 ∅ 0) from rfl,
    show St T Wt c (post (.recv x)) = iprop(semVal (gcell c (some (true, x))) 0 ∗ St T Wt c (got x)) from bigSepL_cons' _ _ _]
  iintro #HC H Hk
  iapply (sound_wait K (true, x) l _ rfl hl rfl rfl) $$ HC H
  iintro ⟨⟨Hz, Hp⟩, HO⟩
  iapply Hk
  isplitr [HO]
  · isplitl [Hz]; · iexact Hz
    iapply (got_intro T Wt x); iapply (Entails.of_eq (show pay T Wt c 0 (some (some (true, x))) = owns (c : Thread nD τ) x.dst fullShare (x.val T Wt (nb x.mask c)) from rfl)); iexact Hp
  iexact HO

theorem sound_sent (x : X) (l : List Due) (hl : ∀ d ∈ l, 0 < d.lev order) {Q : PUnit → sProp 𝕄} :
    Ctx T Wt K ⊢ iprop((St T Wt c (pre (.sent x)) ∗ Ow (F := F) c l)
      -∗ ((St T Wt c (post (.sent x)) ∗ Ow (F := F) c l) -∗ wpk c k Q) -∗ wpk c (step c (.sent x) k) Q) := by
  rw [show St T Wt c (pre (.sent x)) = iprop(cred (tallyAt (gcell c (some (false, x))) () x.N) ∗ atPos ER (gcell c (some (false, x))) 0 ∅ 0) from rfl,
    show St T Wt c (post (.sent x)) = iprop(semVal (gcell c (some (false, x))) 0 ∗ owns (c : Thread nD τ) x.src (shr x.srcQ) (x.val T Wt c)) from by
      rw [← blk_src]; rfl]
  iintro #HC H Hk
  iapply (sound_wait K (false, x) l _ rfl hl rfl x.N_src) $$ HC H
  iintro H
  iapply Hk; iexact H

/-- A transfer to `n`, the partner. -/
theorem wp_start (x : X) (l : List Due) (n : Dev nD) (hn : n = nb x.mask c) {hsc : x.dst.view.ref.isScScratch = false}
    {hsrc : x.src.view.WordExact} {hdst : x.dst.view.WordExact} {hsem : DmaTarget.Typed .vmem (.dma x.rS) (.remote (Dev.tc n : Thread nD τ) x.dst (.dma x.sS) hsc)}
    {Q : PUnit → sProp 𝕄} (fs : Buf (Elt F) (x.src.view.loc (c : Thread nD τ))) (hfs : x.src.view.read (Elt F) fs = x.val T Wt c)
    (fd : Buf (Elt F) (x.dst.view.loc (nb x.mask c : Thread nD τ))) (W : Waits sig Unit) :
    iprop(cellInv ER (Rd T Wt) (K (c, some (false, x))) (gcell c (some (false, x)))
        ∗ cellInv ER (Rd T Wt) (K (nb x.mask c, some (true, x))) (gcell (nb x.mask c) (some (true, x)))
        ∗ (x.src.view.loc (c : Thread nD τ) ↦[x.src.view.set]{shr x.srcQ} fs)
        ∗ (x.dst.view.loc (nb x.mask c : Thread nD τ) ↦[x.dst.view.set]{fullShare} fd)
        ∗ owes (c : Thread nD τ) (owed c (.xf x :: l)) W
        ∗ dutyTok ER (gcell c (some (false, x))) 0 0 ∗ reached ER (gcell c (some (false, x))) 0
        ∗ dutyTok ER (gcell (nb x.mask c) (some (true, x))) 0 0 ∗ reached ER (gcell (nb x.mask c) (some (true, x))) 0)
      ⊢ iprop(((cred (tallyAt (gcell c (some (false, x))) () x.N) ∗ owes (c : Thread nD τ) (owed c l) W) -∗ wpk c k Q)
          -∗ wpk c (.op (.enqueueDma x.src (.remote (Dev.tc n : Thread nD τ) x.dst (.dma x.sS) hsc) (.dma x.rS) hsrc hdst hsem) fun _ => k) Q) := by
  subst hn
  have hp := payload_cell T Wt c (some (false, x)) 0
  have hp' := payload_cell T Wt (nb x.mask c) (some (true, x)) 0
  have hd := duties_cell T Wt c (some (false, x))
  have hd' := duties_cell T Wt (nb x.mask c) (some (true, x))
  exact Rounds.wp_send_pointsTo 𝒱₀ ER (Rd T Wt) (c : Thread nD τ) none
    (sS := .dma x.sS) (sem := .dma x.rS) (k := fun _ => k) (O₀ := owed c (.xf x :: l))
    (κ₁ := K (c, some (false, x))) (κ₂ := K (nb x.mask c, some (true, x))) (r₁ := 0) (r₂ := 0) (d₁ := 0) (d₂ := 0) (fd := fd)
    (by rw [hd]; exact Finset.mem_singleton_self _) (by rw [hd']; exact Finset.mem_singleton_self _)
    () () x.N rfl (amount_cell T Wt c (some (false, x)) 0) (amount_cell T Wt (nb x.mask c) (some (true, x)) 0) (owed c l) rfl (W := W)
    (by rw [hp]; show _ ⊢ owns (c : Thread nD τ) x.src (shr x.srcQ) (x.val T Wt c); rw [← hfs]; exact owns_intro _ _ _ _)
    (by
      rw [hp']
      show _ ⊢ owns (nb x.mask c : Thread nD τ) x.dst fullShare (x.val T Wt (nb x.mask (nb x.mask c)))
      rw [nb_self]
      refine (owns_intro _ _ _ _).trans (Entails.of_eq ?_)
      rw [View.read_write_univ, hfs])

theorem sound_start (x : X) (l : List Due) {Q : PUnit → sProp 𝕄} :
    Ctx T Wt K ⊢ iprop((St T Wt c (pre (.start x)) ∗ Ow (F := F) c (.xf x :: l))
      -∗ ((St T Wt c (post (.start x)) ∗ Ow (F := F) c l) -∗ wpk c k Q) -∗ wpk c (step c (.start x) k) Q) := by
  rw [show St T Wt c (pre (.start x)) = iprop((dutyTok ER (gcell c (some (false, x))) 0 0 ∗ dutyTok ER (gcell (nb x.mask c) (some (true, x))) 0 0
      ∗ atPos ER (gcell c (some (false, x))) 0 ∅ 0) ∗ Land c x ∗ owns (c : Thread nD τ) x.src (shr x.srcQ) (x.val T Wt c)) from by
      rw [← blk_src]; rfl,
    show St T Wt c (post (.start x)) = iprop(cred (tallyAt (gcell c (some (false, x))) () x.N) ∗ atPos ER (gcell c (some (false, x))) 0 ∅ 0) from rfl]
  unfold Ow Land owns
  iintro #HC ⟨⟨⟨HtS, HtR, Hat⟩, ⟨%V, %fd, %hfd, Hd⟩, ⟨%fs, %hfs, Hs⟩⟩, ⟨%W, HO⟩⟩ Hk
  iapply (wp_start K x l _ (partner_eq c x.mask) fs hfs fd W) $$ [HtS HtR Hd Hs HO]
  · isplitr; · iapply (Ctx_inv T Wt K c (some (false, x))); iexact HC
    isplitr; · iapply (Ctx_inv T Wt K (nb x.mask c) (some (true, x))); iexact HC
    isplitl [Hs]; · iexact Hs
    isplitl [Hd]; · iexact Hd
    isplitl [HO]; · iexact HO
    isplitl [HtS]; · iexact HtS
    isplitr; · iapply (Ctx_reached T Wt K c (some (false, x))); iexact HC
    isplitl [HtR]; · iexact HtR
    iapply (Ctx_reached T Wt K (nb x.mask c) (some (true, x))); iexact HC
  iintro ⟨Hc, HO⟩
  iapply Hk
  isplitr [HO]
  · isplitl [Hc]; · iexact Hc
    iexact Hat
  iexists W; iexact HO

/-! ## The steps that stay on the device -/

theorem sound_quant (p : Fin 3) (j : Fin 4) {Q : PUnit → sProp 𝕄} :
    St T Wt c (pre (.quant p j)) ⊢ iprop((St T Wt c (post (.quant p j)) -∗ wpk c k Q) -∗ wpk c (step c (.quant p j) k) Q) := by
  rw [show St T Wt c (pre (.quant p j)) = iprop(((c : Thread nD τ).loc cc0_stg0_0 ↦{fullShare} T c)
      ∗ ∃ V, owns (c : Thread nD τ) ((sndM p).slice (row 4 p j) fun _ => rfl) fullShare V) from rfl,
    show St T Wt c (post (.quant p j)) = iprop(((c : Thread nD τ).loc cc0_stg0_0 ↦{fullShare} T c)
      ∗ owns (c : Thread nD τ) ((sndM p).slice (row 4 p j) fun _ => rfl) fullShare (sndV T p j c)) from rfl]
  iintro ⟨Ht, ⟨%V, Hs⟩⟩ Hk
  iapply (load_pts (m := tM) (r := tR c p (dd p j ^^^ m1 p))) $$ Ht
  iintro Ht
  iapply (ldSt_owns (m := sndM p)) $$ Hs
  iintro Hs
  iapply Hk
  isplitl [Ht]; · iexact Ht
  iexact Hs

theorem sound_wcopy {Q : PUnit → sProp 𝕄} :
    St T Wt c (pre .wcopy) ⊢ iprop((St T Wt c (post .wcopy) -∗ wpk c k Q) -∗ wpk c (step c .wcopy k) Q) := by
  rw [show St T Wt c (pre .wcopy) = iprop(((c : Thread nD τ).loc cc0_stg1_0 ↦{fullShare} Wt c)
      ∗ ∃ f, ((c : Thread nD τ).loc cc0_scratch0) ↦{fullShare} f) from rfl,
    show St T Wt c (post .wcopy) = iprop(((c : Thread nD τ).loc cc0_stg1_0 ↦{fullShare} Wt c)
      ∗ (((c : Thread nD τ).loc cc0_scratch0) ↦{fullShare} wV Wt c)) from rfl]
  have hz : (![0, 0] : Fin 2 → Nat) = fun _ => 0 := funext fun a => by fin_cases a <;> rfl
  iintro ⟨Hw, ⟨%f, Hb⟩⟩ Hk
  iapply (load_pts (m := winM) (r := Rect.unit (s := S1024x1024) ![0, 0] S1024x1024.size inb_S1024x1024_S1024x1024_0_0)) $$ Hw
  iintro Hw
  rw [show (winM.access (Rect.unit (s := S1024x1024) ![0, 0] S1024x1024.size inb_S1024x1024_S1024x1024_0_0)).read (Elt F) (Wt c) = Wt c from
    Memref.readAt_unit_zero (Elt F) cc0_stg1_0 hz _ _]
  iapply (load_pts (m := wM) (r := Rect.unit (s := S1024x1024) ![0, 0] S1024x1024.size inb_S1024x1024_S1024x1024_0_0)) $$ Hb
  iintro Hb
  iapply (wp_store 𝒱₀ (c : Thread nD τ) none Set.univ (m := wM) (r := Rect.unit (s := S1024x1024) ![0, 0] S1024x1024.size inb_S1024x1024_S1024x1024_0_0)
    (Mk := Finset.univ) (Finset.subset_univ _)) $$ Hb
  iintro Hb
  rw [show (wM.access (Rect.unit (s := S1024x1024) ![0, 0] S1024x1024.size inb_S1024x1024_S1024x1024_0_0)).write (Elt F) f (k0_pay18 (Wt c)) Finset.univ = wV Wt c from
    Memref.write_access_unit_zero_univ (Elt F) cc0_scratch0 hz _ f _]
  iapply Hk
  isplitl [Hw]; · iexact Hw
  iexact Hb

theorem sound_acc8 (p : Fin 3) (j : Fin 4) {Q : PUnit → sProp 𝕄} :
    St T Wt c (pre (.acc8 p j)) ⊢ iprop((St T Wt c (post (.acc8 p j)) -∗ wpk c k Q) -∗ wpk c (step c (.acc8 p j) k) Q) := by
  rw [show St T Wt c (pre (.acc8 p j)) = iprop(((c : Thread nD τ).loc cc0_stg0_0 ↦{fullShare} T c)
      ∗ owns (c : Thread nD τ) ((r8M p).slice (row 4 p j) fun _ => rfl) fullShare (sndV T p j (nb (m1 p) c))
      ∗ ∃ V, owns (c : Thread nD τ) ((accM p).slice (row 8 p (dd p j)) fun _ => rfl) fullShare V) from rfl,
    show St T Wt c (post (.acc8 p j)) = iprop(((c : Thread nD τ).loc cc0_stg0_0 ↦{fullShare} T c)
      ∗ owns (c : Thread nD τ) ((r8M p).slice (row 4 p j) fun _ => rfl) fullShare (sndV T p j (nb (m1 p) c))
      ∗ owns (c : Thread nD τ) ((accM p).slice (row 8 p (dd p j)) fun _ => rfl) fullShare (A1 T p j c)) from rfl]
  iintro ⟨Ht, Hr, ⟨%V, Hs⟩⟩ Hk
  iapply (load_owns (r8M p) (row 4 p j) (fun _ => rfl)) $$ Hr
  iintro Hr
  iapply (load_pts (m := tM) (r := tR c p (dd p j))) $$ Ht
  iintro Ht
  iapply (ldSt_owns (m := accM p)) $$ Hs
  iintro Hs
  iapply Hk
  isplitl [Ht]; · iexact Ht
  isplitl [Hr]; · iexact Hr
  iexact Hs

theorem sound_acc16 (p : Fin 3) (j : Fin 3) {Q : PUnit → sProp 𝕄} :
    St T Wt c (pre (.acc16 p j)) ⊢ iprop((St T Wt c (post (.acc16 p j)) -∗ wpk c k Q) -∗ wpk c (step c (.acc16 p j) k) Q) := by
  have hpre : St T Wt c (pre (.acc16 p j)) = iprop(owns (c : Thread nD τ) ((r16M p).slice (row 3 p j) fun _ => rfl) fullShare ((Blk.r16 p j).val T Wt c 1)
      ∗ owns (c : Thread nD τ) ((accM p).slice (row 8 p (adst p j)) fun _ => rfl) fullShare ((Blk.acc p (ak j)).val T Wt c (accS j))) := by
    match j with | 0 | 1 | 2 => rfl
  have hv : (Blk.acc p (ak j)).val T Wt c (accS j + 1) = add16 p ((Blk.r16 p j).val T Wt c 1) ((Blk.acc p (ak j)).val T Wt c (accS j)) := by
    match j with | 0 | 1 | 2 => rfl
  have hpost : St T Wt c (post (.acc16 p j)) = iprop(owns (c : Thread nD τ) ((r16M p).slice (row 3 p j) fun _ => rfl) fullShare ((Blk.r16 p j).val T Wt c 1)
      ∗ owns (c : Thread nD τ) ((accM p).slice (row 8 p (adst p j)) fun _ => rfl) fullShare ((Blk.acc p (ak j)).val T Wt c (accS j + 1))) := by
    match j with | 0 | 1 | 2 => rfl
  rw [hpre, hpost, hv]
  iintro ⟨Hr, Ha⟩ Hk
  iapply (load_owns (r16M p) (row 3 p j) (fun _ => rfl)) $$ Hr
  iintro Hr
  iapply (load_owns (accM p) (row 8 p (adst p j)) (fun _ => rfl)) $$ Ha
  iintro Ha
  iapply (ldSt_owns (m := accM p)) $$ Ha
  iintro Ha
  iapply Hk
  isplitl [Hr]; · iexact Hr
  iexact Ha

/-- Reading needs only a share. -/
theorem sound_out (p : Fin 3) (i : Fin 7) {Q : PUnit → sProp 𝕄} :
    St T Wt c (pre (.out p i)) ⊢ iprop((St T Wt c (post (.out p i)) -∗ wpk c k Q) -∗ wpk c (step c (.out p i) k) Q) := by
  rw [show St T Wt c (pre (.out p i)) = iprop(owns (c : Thread nD τ) ((agM p).slice (row 8 p (ob p i)) fun _ => rfl) (shr 3) (agV T Wt p (ob p i) c)
      ∗ ∃ V, owns (c : Thread nD τ) (outM.slice (tR c p (ob p i)) fun _ => rfl) fullShare V) from rfl,
    show St T Wt c (post (.out p i)) = iprop(owns (c : Thread nD τ) ((agM p).slice (row 8 p (ob p i)) fun _ => rfl) (shr 3) (agV T Wt p (ob p i) c)
      ∗ owns (c : Thread nD τ) (outM.slice (tR c p (ob p i)) fun _ => rfl) fullShare (dq3 p (agV T Wt p (ob p i) c))) from rfl]
  iintro ⟨Hg, ⟨%V, Ho⟩⟩ Hk
  iapply (load_owns (agM p) (row 8 p (ob p i)) (fun _ => rfl)) $$ Hg
  iintro Hg
  iapply (ldSt_owns (m := outM)) $$ Ho
  iintro Ho
  iapply Hk
  isplitl [Hg]; · iexact Hg
  iexact Ho

/-- Such a step leaves what is owed alone. -/
theorem keep_owed {a b w w' O C : sProp 𝕄} (h : a ⊢ iprop((b -∗ w) -∗ w')) : C ⊢ iprop((a ∗ O) -∗ ((b ∗ O) -∗ w) -∗ w') := by
  iintro - ⟨Ha, HO⟩ Hk
  iapply h $$ Ha
  iintro Hb
  iapply Hk
  isplitl [Hb]; · iexact Hb
  iexact HO

/-- Every step runs from what it takes to what it leaves. -/
theorem step_sound (o : Op) (l l' : List Due) (h : next o l = some l') {Q : PUnit → sProp 𝕄} :
    Ctx T Wt K ⊢ iprop((St T Wt c (pre o) ∗ Ow (F := F) c l) -∗ ((St T Wt c (post o) ∗ Ow (F := F) c l') -∗ wpk c k Q) -∗ wpk c (step c o k) Q) := by
  match o, l with
  | .sig e, [] => exact absurd h nofun
  | .start x, [] => exact absurd h nofun
  | .sig e, d :: l =>
    obtain ⟨hd, hl⟩ := Option.ite_none_right_eq_some.mp h
    subst hd; obtain rfl := Option.some.inj hl; exact sound_sig K e l
  | .start x, d :: l =>
    obtain ⟨hd, hl⟩ := Option.ite_none_right_eq_some.mp h
    subst hd; obtain rfl := Option.some.inj hl; exact sound_start K x l
  | .bar, l => obtain ⟨hd, hl⟩ := Option.ite_none_right_eq_some.mp h; obtain rfl := Option.some.inj hl; exact sound_bar K l hd
  | .recv x, l => obtain ⟨hd, hl⟩ := Option.ite_none_right_eq_some.mp h; obtain rfl := Option.some.inj hl; exact sound_recv K x l hd
  | .sent x, l => obtain ⟨hd, hl⟩ := Option.ite_none_right_eq_some.mp h; obtain rfl := Option.some.inj hl; exact sound_sent K x l hd
  | .quant p j, l => obtain rfl := Option.some.inj h; exact keep_owed (sound_quant p j)
  | .wcopy, l => obtain rfl := Option.some.inj h; exact keep_owed sound_wcopy
  | .acc8 p j, l => obtain rfl := Option.some.inj h; exact keep_owed (sound_acc8 p j)
  | .acc16 p j, l => obtain rfl := Option.some.inj h; exact keep_owed (sound_acc16 p j)
  | .out p i, l => obtain rfl := Option.some.inj h; exact keep_owed (sound_out p i)

/-! ## Lists of steps -/

theorem take_one {a : Res} : {rs : List Res} → a ∈ rs → St T Wt c rs ⊢ iprop(atom T Wt c a ∗ St T Wt c (rs.erase a))
  | r :: rs, h => by
    by_cases hr : r = a
    · subst hr; rw [List.erase_cons_head]; exact Entails.of_eq (bigSepL_cons' _ _ _)
    · rw [List.erase_cons_tail (by simpa using hr)]
      have ih := take_one (List.mem_of_ne_of_mem (fun h => hr h.symm) h)
      unfold St at ih ⊢
      rw [bigSepL_cons', bigSepL_cons']
      iintro ⟨Hr, Hrs⟩
      ihave H := ih $$ Hrs
      icases H with ⟨Ha, Hrs⟩
      isplitl [Ha]; · iexact Ha
      isplitl [Hr]; · iexact Hr
      iexact Hrs

theorem take_all : {l rs rs' : List Res} → takeAll l rs = some rs' → St T Wt c rs ⊢ iprop(St T Wt c l ∗ St T Wt c rs')
  | [], rs, rs', h => by
    obtain rfl := Option.some.inj h
    exact (emp_sep (PROP := sProp 𝕄)).2
  | a :: l, rs, rs', h => by
    obtain ⟨ha, hl⟩ := Option.ite_none_right_eq_some.mp h
    refine (take_one ha).trans ((sep_mono_right (take_all hl)).trans ?_)
    unfold St
    rw [bigSepL_cons']
    exact sep_assoc.2

theorem steps_sound : (os : List Op) → (rs rs' : List Res) → (l l' : List Due) → exec os rs l = some (rs', l') → {Q : PUnit → sProp 𝕄} →
    Ctx T Wt K ⊢ iprop((St T Wt c rs ∗ Ow (F := F) c l) -∗ ((St T Wt c rs' ∗ Ow (F := F) c l') -∗ wpk c k Q) -∗ wpk c (steps c os k) Q)
  | [], rs, rs', l, l', h, Q => by
    obtain ⟨rfl, rfl⟩ := Prod.mk.inj (Option.some.inj h)
    iintro - H Hk
    iapply Hk; iexact H
  | o :: os, rs, rs', l, l', h, Q => by
    obtain ⟨l₁, hl, h⟩ := Option.bind_eq_some_iff.mp h
    obtain ⟨rs₁, hr, h⟩ := Option.bind_eq_some_iff.mp h
    have ih := steps_sound os _ rs' l₁ l' h (Q := Q)
    unfold St at ih ⊢
    rw [bigSepL_append] at ih
    rw [show steps c (o :: os) k = step c o (steps c os k) from rfl]
    iintro #HC ⟨Hrs, HO⟩ Hk
    ihave H := (take_all hr) $$ Hrs
    icases H with ⟨Hp, Hrs⟩
    iapply (step_sound K o l l₁ hl) $$ HC [Hp HO]
    · isplitl [Hp]; · iexact Hp
      iexact HO
    iintro ⟨Hp, HO⟩
    iapply ih $$ HC [Hp Hrs HO]
    · isplitr [HO]
      · isplitl [Hp]; · iexact Hp
        iexact Hrs
      iexact HO
    iexact Hk

end Rules

end Cert.KProof

end
-- ==== Proof.Blocks.lean ====
/-
  # The blocks of the buffers

  The buffers cut into blocks and put together again; the items a device starts and ends with, and that the whole list of
  steps leads from the ones to the others.
-/
module

public import proofs.«01_k».proof.Proof.Steps

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (T : Dev nD → TBuf F) (Wt : Dev nD → WBuf F)

/-! ## Cutting and gluing -/

section Cut

variable {c : Dev nD} {sh : Shape} {e : EltTy} {m : Memref sig .tc .vmem sh e} {I : Type} [Fintype I] [DecidableEq I] {r : I → Rect sh}
  (hr : ∀ t a, (r t).stride a = 1) (hd : ∀ t t', t ≠ t' → Disjoint (r t).set (r t').set)
  (hcov : (Finset.univ : Finset I).biUnion (fun t => (r t).set) = Finset.univ) (l : List I) (hl : Finset.univ = l.toFinset) (hn : l.Nodup)
include hd hcov hl hn

theorem cut_any :
    iprop(∃ V, owns (c : Thread nD τ) m fullShare V) ⊢ (bigSepL l fun t => iprop(∃ V, owns (c : Thread nD τ) (m.slice (r t) (hr t)) fullShare V) : sProp 𝕄) := by
  rw [← bigSep_univ_eq_bigSepL l hl hn]
  iintro ⟨%V, H⟩
  iapply (show (owns (c : Thread nD τ) m fullShare V : sProp 𝕄) ⊢ bigSep Finset.univ fun t => iprop(∃ V, owns (c : Thread nD τ) (m.slice (r t) (hr t)) fullShare V) from
    (owns_rects (c : Thread nD τ) m fullShare r hr hd hcov V).trans (bigSep_mono fun t _ => exists_intro (Φ := fun V => owns (c : Thread nD τ) (m.slice (r t) (hr t)) fullShare V) _))
  iexact H

theorem glue_val (Xs : (t : I) → (r t).shape.Idx → Elt F e) :
    (bigSepL l fun t => owns (c : Thread nD τ) (m.slice (r t) (hr t)) fullShare (Xs t) : sProp 𝕄)
      ⊢ owns (c : Thread nD τ) m fullShare (Rect.glue r hcov Xs) := by
  rw [← bigSep_univ_eq_bigSepL l hl hn]
  have hg (t : I) : (fun j => Rect.glue r hcov Xs ((r t).emb j)) = Xs t := funext fun y => Rect.glue_emb r hcov hd Xs t y
  refine Entails.trans (Entails.of_eq ?_) (owns_of_rects (c : Thread nD τ) m fullShare r hr hd hcov (Rect.glue r hcov Xs))
  exact bigSep_congr fun t _ => by rw [hg]

theorem glue_any :
    (bigSepL l fun t => iprop(∃ V, owns (c : Thread nD τ) (m.slice (r t) (hr t)) fullShare V) : sProp 𝕄) ⊢ iprop(∃ V, owns (c : Thread nD τ) m fullShare V) := by
  rw [← bigSep_univ_eq_bigSepL l hl hn]
  refine (BI.bigSep_exists_pi Finset.univ (fun t X => (owns (c : Thread nD τ) (m.slice (r t) (hr t)) fullShare X : sProp 𝕄))).trans ?_
  iintro ⟨%Xs, H⟩
  iexists (Rect.glue r hcov Xs)
  iapply (glue_val (m := m) hr hd hcov l hl hn Xs)
  rw [← bigSep_univ_eq_bigSepL l hl hn]
  iexact H

end Cut

/-! ## The families of blocks -/

theorem rows_disjoint (n : ℕ) (p : Fin 3) (t t' : Fin n) (h : t ≠ t') : Disjoint (row n p t).set (row n p t').set :=
  Rect.unit_disjoint (0 : Fin 2) (by
    show 256 * t.val + 256 ≤ 256 * t'.val ∨ 256 * t'.val + 256 ≤ 256 * t.val
    have := fun h' => h (Fin.ext h'); omega)

theorem rows_cover (n : ℕ) (p : Fin 3) : (Finset.univ : Finset (Fin n)).biUnion (fun t => (row n p t).set) = Finset.univ := by
  refine Finset.eq_univ_iff_forall.mpr fun x => ?_
  have h0 : (x (0 : Fin 2)).val < 256 * n := (x (0 : Fin 2)).isLt
  have h1 : (x (1 : Fin 2)).val < wid p := (x (1 : Fin 2)).isLt
  refine Finset.mem_biUnion.mpr ⟨⟨(x (0 : Fin 2)).val / 256, by omega⟩, Finset.mem_univ _, Rect.mem_set_unit.mpr fun a => ?_⟩
  refine Fin.cases ?_ (fun a => Fin.cases ?_ (fun a => a.elim0) a) a
  · show 256 * ((x (0 : Fin 2)).val / 256) ≤ (x (0 : Fin 2)).val ∧ (x (0 : Fin 2)).val < 256 * ((x (0 : Fin 2)).val / 256) + 256
    omega
  · show 0 ≤ (x (1 : Fin 2)).val ∧ (x (1 : Fin 2)).val < 0 + wid p
    omega

/-- The result's pieces: the device's own block, and each other block in each group. -/
abbrev Piece := Option (Fin 3 × Fin 7)
abbrev pieces : List Piece := none :: ((List.finRange 3).flatMap fun p => (List.finRange 7).map fun i => some (p, i))

abbrev outR (c : Dev nD) : Piece → Rect S2048x1024
  | none => oR c
  | some (p, i) => tR c p (ob p i)

theorem tOff_eq (c : Dev nD) (p : Fin 3) (r : Fin 8) : tOff c p r = ![256 * (nb r c).val, col p] := by revert c p r; decide +kernel
theorem oOff_eq (c : Dev nD) : k0_off4 c = ![256 * c.val, 0] := by revert c; decide +kernel
theorem ob_ne (c : Dev nD) (p : Fin 3) (i : Fin 7) : nb (ob p i) c ≠ c := by revert c p i; decide +kernel
theorem ob_inj (c : Dev nD) (p : Fin 3) (i j : Fin 7) : nb (ob p i) c = nb (ob p j) c → i = j := by revert c p i j; decide +kernel
theorem ob_all (c : Dev nD) (p : Fin 3) (d : Dev nD) (h : d ≠ c) : ∃ i, nb (ob p i) c = d := by revert c p d; decide +kernel

theorem mem_outR (c : Dev nD) (x : S2048x1024.Idx) : (t : Piece) → (x ∈ (outR c t).set ↔ match t with
    | none => 256 * c.val ≤ (x (0 : Fin 2)).val ∧ (x (0 : Fin 2)).val < 256 * c.val + 256
    | some (p, i) => (256 * (nb (ob p i) c).val ≤ (x (0 : Fin 2)).val ∧ (x (0 : Fin 2)).val < 256 * (nb (ob p i) c).val + 256)
      ∧ col p ≤ (x (1 : Fin 2)).val ∧ (x (1 : Fin 2)).val < col p + wid p)
  | none => by
    have h1 : (x (1 : Fin 2)).val < 1024 := (x (1 : Fin 2)).isLt
    refine Rect.mem_set_unit.trans ?_
    rw [oOff_eq]
    refine Fin.forall_fin_two.trans ⟨fun h => h.1, fun h => ⟨h, ?_⟩⟩
    show 0 ≤ (x (1 : Fin 2)).val ∧ (x (1 : Fin 2)).val < 0 + 1024
    omega
  | some (p, i) => by
    refine Rect.mem_set_unit.trans ?_
    rw [tOff_eq]
    exact Fin.forall_fin_two

theorem col_sep (p q : Fin 3) (h : p ≠ q) : col p + wid p ≤ col q ∨ col q + wid q ≤ col p := by revert p q; decide

theorem outR_disjoint (c : Dev nD) (t t' : Piece) (h : t ≠ t') : Disjoint (outR c t).set (outR c t').set := by
  refine Finset.disjoint_left.mpr fun x hx hx' => ?_
  rw [mem_outR] at hx hx'
  match t, t' with
  | none, none => exact h rfl
  | none, some (p, i) =>
    have hne : (nb (ob p i) c).val ≠ c.val := fun e => ob_ne c p i (Fin.ext e)
    dsimp only at hx hx'; omega
  | some (p, i), none =>
    have hne : (nb (ob p i) c).val ≠ c.val := fun e => ob_ne c p i (Fin.ext e)
    dsimp only at hx hx'; omega
  | some (p, i), some (q, j) =>
    dsimp only at hx hx'
    by_cases hp : p = q
    · subst hp
      have hne : (nb (ob p i) c).val ≠ (nb (ob p j) c).val := fun e => h (by rw [ob_inj c p i j (Fin.ext e)])
      omega
    · have := col_sep p q hp
      omega

theorem outR_cover (c : Dev nD) : (Finset.univ : Finset Piece).biUnion (fun t => (outR c t).set) = Finset.univ := by
  refine Finset.eq_univ_iff_forall.mpr fun x => ?_
  have h0 : (x (0 : Fin 2)).val < 2048 := (x (0 : Fin 2)).isLt
  have h1 : (x (1 : Fin 2)).val < 1024 := (x (1 : Fin 2)).isLt
  let d : Dev nD := ⟨(x (0 : Fin 2)).val / 256, by show _ < 8; omega⟩
  have hd : 256 * d.val ≤ (x (0 : Fin 2)).val ∧ (x (0 : Fin 2)).val < 256 * d.val + 256 := by
    show 256 * ((x (0 : Fin 2)).val / 256) ≤ _ ∧ _ < 256 * ((x (0 : Fin 2)).val / 256) + 256
    omega
  by_cases hc : d = c
  · exact Finset.mem_biUnion.mpr ⟨none, Finset.mem_univ _, (mem_outR c x none).mpr (hc ▸ hd)⟩
  · have hp : ∃ p : Fin 3, col p ≤ (x (1 : Fin 2)).val ∧ (x (1 : Fin 2)).val < col p + wid p := by
      by_cases h : (x (1 : Fin 2)).val < 384
      · exact ⟨0, Nat.zero_le _, by show _ < 0 + 384; omega⟩
      by_cases h' : (x (1 : Fin 2)).val < 768
      · exact ⟨1, by show 384 ≤ _; omega, by show _ < 384 + 384; omega⟩
      · exact ⟨2, by show 768 ≤ _; omega, by show _ < 768 + 256; omega⟩
    obtain ⟨p, hp⟩ := hp
    obtain ⟨i, hi⟩ := ob_all c p d hc
    exact Finset.mem_biUnion.mpr ⟨some (p, i), Finset.mem_univ _, (mem_outR c x _).mpr ⟨hi ▸ hd, hp⟩⟩

/-- What each piece of the result holds in the end. -/
def pieceV (c : Dev nD) : (t : Piece) → (outR c t).shape.Idx → Elt F .bf16
  | none => truncf .bf16 (outV T Wt c) bitsLt_bf16_f32
  | some (p, i) => dq3 p (agV T Wt p (ob p i) c)

/-- Device `c`'s result. -/
def resV (c : Dev nD) : (cc0_stg2_0 : Ref sig .tc).ty.Contents (Elt F) := Rect.glue (outR c) (outR_cover c) (pieceV T Wt c)

theorem resV_emb (c : Dev nD) (t : Piece) (y : (outR c t).shape.Idx) : resV T Wt c ((outR c t).emb y) = pieceV T Wt c t y :=
  Rect.glue_emb _ _ (outR_disjoint c) _ t y

/-! ## Items at the start and in the end -/

/-- Blocks of one buffer, at a stage, full. -/
abbrev blks {n : ℕ} (b : Fin n → Blk) (s : ℕ) : List Res := (List.finRange n).map fun i => .blk (b i) s 0

/-- All the scratch blocks of a group but the gathered ones. -/
abbrev scrs (s : ℕ) (sa : Fin 4 → ℕ) (p : Fin 3) : List Res :=
  ((List.finRange 4).map (fun i => Res.blk (.acc p i) (sa i) 0) ++ blks (.acy p) 0) ++ (blks (.snd p) s ++ (blks (.r8 p) s ++ blks (.r16 p) s))
abbrev outs (s : ℕ) : List Res := .blk .own s 0 :: (List.finRange 3).flatMap fun p => blks (.ou p) s
abbrev agThirds (p : Fin 3) : List Res := (List.finRange 8).flatMap fun b => [.blk (.ag p b) 1 1, .blk (.ag p b) 1 2, .blk (.ag p b) 1 3]

def rsProto : List Res := .B0 :: ([.G 0, .G 1, .G 2] ++ (X.all.map .S0 ++ X.all.map .R0))
def rsMem : List Res :=
  [.tin, .win] ++ (outs 0 ++ (.wbf false :: ([0, 1, 2].flatMap (scrs 0 fun _ => 0) ++ [0, 1, 2].flatMap fun p => blks (.ag p) 0)))
def rsProto' : List Res := .B1 :: (X.all.map .S2 ++ X.all.map .R1)
def rsMem' : List Res :=
  [.tin, .win] ++ (outs 1 ++ (.wbf true :: ([0, 1, 2].flatMap (scrs 1 ![1, 1, 2, 3]) ++ [0, 1, 2].flatMap agThirds)))

/-- The product takes the finished accumulator blocks, the weights and the blocks of the gathering it stores into. -/
def midTake : List Res := [.wbf true, .blk (.acc 0 3) 3 0, .blk (.acc 1 3) 3 0, .blk (.acc 2 3) 3 0, .blk (.ag 0 0) 0 0, .blk (.ag 1 0) 0 0, .blk (.ag 2 0) 0 0]
def midLeave : List Res :=
  [.wbf true, .blk (.acc 0 3) 3 0, .blk (.acc 1 3) 3 0, .blk (.acc 2 3) 3 0, .blk (.ag 0 0) 1 1, .blk (.ag 0 0) 1 2, .blk (.ag 0 0) 1 3,
   .blk (.ag 1 0) 1 1, .blk (.ag 1 0) 1 2, .blk (.ag 1 0) 1 3, .blk (.ag 2 0) 1 1, .blk (.ag 2 0) 1 2, .blk (.ag 2 0) 1 3]

/-- The whole program, on the list of items. -/
def flow : Option (List Res) :=
  (exec opsA (rsProto ++ rsMem) dues).bind fun a =>
  (takeAll midTake a.1).bind fun b =>
  (exec opsB (midLeave ++ b) a.2).bind fun d =>
  (takeAll [.blk .own 0 0] d.1).bind fun f =>
  (exec opsC (.blk .own 1 0 :: f) d.2).bind fun g =>
  if g.2 = [] then takeAll (rsProto' ++ rsMem') g.1 else none

set_option maxRecDepth 100000 in
theorem flow_eq : flow = some [] := by decide +kernel

end Cert.KProof

end
-- ==== Proof.Body.lean ====
/-
  # One device's run

  The program run on the items, and the items made from whole buffers and put back into them.
-/
module

public import proofs.«01_k».proof.Proof.Blocks

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {T : Dev nD → TBuf F} {Wt : Dev nD → WBuf F} {c : Dev nD}

/-! ## The product and what is made of it -/

theorem product_sound {k : FVec F S256x1024 .f32 → PR F} {Q : PUnit → sProp 𝕄} :
    iprop(atom T Wt c (.wbf true) ∗ atom T Wt c (.blk (.acc 0 3) 3 0) ∗ atom T Wt c (.blk (.acc 1 3) 3 0) ∗ atom T Wt c (.blk (.acc 2 3) 3 0))
      ⊢ iprop((iprop(atom T Wt c (.wbf true) ∗ atom T Wt c (.blk (.acc 0 3) 3 0) ∗ atom T Wt c (.blk (.acc 1 3) 3 0) ∗ atom T Wt c (.blk (.acc 2 3) 3 0))
        -∗ wpk c (k (outV T Wt c)) Q) -∗ wpk c (product k) Q) := by
  rw [show atom T Wt c (.blk (.acc 0 3) 3 0) = owns (c : Thread nD τ) ((accM 0).slice (row 8 0 0) fun _ => rfl) fullShare (B3 T 0 c) from rfl,
    show atom T Wt c (.blk (.acc 1 3) 3 0) = owns (c : Thread nD τ) ((accM 1).slice (row 8 1 0) fun _ => rfl) fullShare (B3 T 1 c) from rfl,
    show atom T Wt c (.blk (.acc 2 3) 3 0) = owns (c : Thread nD τ) ((accM 2).slice (row 8 2 0) fun _ => rfl) fullShare (B3 T 2 c) from rfl,
    show atom T Wt c (.wbf true) = (((c : Thread nD τ).loc cc0_scratch0) ↦{fullShare} wV Wt c) from rfl]
  iintro ⟨Hw, H0, H1, H2⟩ Hk
  iapply (load_owns (accM 0) (row 8 0 0) (fun _ => rfl)) $$ H0
  iintro H0
  iapply (load_pts (m := wM) (r := rowsW0)) $$ Hw
  iintro Hw
  iapply (load_owns (accM 1) (row 8 1 0) (fun _ => rfl)) $$ H1
  iintro H1
  iapply (load_pts (m := wM) (r := rowsW1)) $$ Hw
  iintro Hw
  iapply (load_owns (accM 2) (row 8 2 0) (fun _ => rfl)) $$ H2
  iintro H2
  iapply (load_pts (m := wM) (r := rowsW2)) $$ Hw
  iintro Hw
  iapply Hk
  isplitl [Hw]; · iexact Hw
  isplitl [H0]; · iexact H0
  isplitl [H1]; · iexact H1
  iexact H2

theorem split_shares {s : Shape} {e : EltTy} (m : Memref sig .tc .vmem s e) (V : s.Idx → Elt F e) :
    (owns (c : Thread nD τ) m fullShare V : sProp 𝕄)
      ⊣⊢ iprop(owns (c : Thread nD τ) m (shr 1) V ∗ owns (c : Thread nD τ) m (shr 2) V ∗ owns (c : Thread nD τ) m (shr 3) V) :=
  ⟨(owns_halves (c : Thread nD τ) m fullShare V).1.trans (sep_mono .rfl (owns_halves (c : Thread nD τ) m fullShare.right V).1),
   (sep_mono .rfl (owns_halves (c : Thread nD τ) m fullShare.right V).2).trans (owns_halves (c : Thread nD τ) m fullShare V).2⟩

theorem putAg_sound (p : Fin 3) {k : PR F} {Q : PUnit → sProp 𝕄} :
    atom T Wt c (.blk (.ag p 0) 0 0)
      ⊢ iprop((iprop(atom T Wt c (.blk (.ag p 0) 1 1) ∗ atom T Wt c (.blk (.ag p 0) 1 2) ∗ atom T Wt c (.blk (.ag p 0) 1 3)) -∗ wpk c k Q)
        -∗ wpk c (putAg p (outV T Wt c) k) Q) := by
  rw [show atom T Wt c (.blk (.ag p 0) 0 0) = iprop(∃ V, owns (c : Thread nD τ) ((agM p).slice (row 8 p 0) fun _ => rfl) fullShare V) from rfl,
    show iprop(atom T Wt c (.blk (.ag p 0) 1 1) ∗ atom T Wt c (.blk (.ag p 0) 1 2) ∗ atom T Wt c (.blk (.ag p 0) 1 3))
      = iprop(owns (c : Thread nD τ) ((agM p).slice (row 8 p 0) fun _ => rfl) (shr 1) (agV T Wt p 0 c)
        ∗ owns (c : Thread nD τ) ((agM p).slice (row 8 p 0) fun _ => rfl) (shr 2) (agV T Wt p 0 c)
        ∗ owns (c : Thread nD τ) ((agM p).slice (row 8 p 0) fun _ => rfl) (shr 3) (agV T Wt p 0 c)) from rfl,
    show agV T Wt p 0 c = q3 p (outV T Wt c) from by unfold agV; rw [nb_zero]]
  iintro ⟨%V, H⟩ Hk
  iapply (ldSt_owns (m := agM p)) $$ H
  iintro H
  iapply Hk
  iapply (split_shares _ _).1 $$ H

theorem putOut_sound {k : PR F} {Q : PUnit → sProp 𝕄} :
    atom T Wt c (.blk .own 0 0) ⊢ iprop((atom T Wt c (.blk .own 1 0) -∗ wpk c k Q) -∗ wpk c (putOut c (outV T Wt c) k) Q) := by
  rw [show atom T Wt c (.blk .own 0 0) = iprop(∃ V, owns (c : Thread nD τ) (outM.slice (oR c) fun _ => rfl) fullShare V) from rfl,
    show atom T Wt c (.blk .own 1 0) = owns (c : Thread nD τ) (outM.slice (oR c) fun _ => rfl) fullShare (truncf .bf16 (outV T Wt c) bitsLt_bf16_f32) from rfl]
  iintro ⟨%V, H⟩ Hk
  iapply (ldSt_owns (m := outM)) $$ H
  iintro H
  iapply Hk
  iexact H

/-! ## The whole program -/

theorem mid_sound (K : Dev nD × Cell → ℕ) {k : FVec F S256x1024 .f32 → PR F} {Q : PUnit → sProp 𝕄} :
    St T Wt c midTake ⊢ iprop((St T Wt c midLeave -∗ wpk c (k (outV T Wt c)) Q)
      -∗ wpk c (product fun o => putAg 0 o (putAg 1 o (putAg 2 o (k o)))) Q) := by
  rw [show St T Wt c midTake = iprop(atom T Wt c (.wbf true) ∗ atom T Wt c (.blk (.acc 0 3) 3 0) ∗ atom T Wt c (.blk (.acc 1 3) 3 0)
      ∗ atom T Wt c (.blk (.acc 2 3) 3 0) ∗ atom T Wt c (.blk (.ag 0 0) 0 0) ∗ atom T Wt c (.blk (.ag 1 0) 0 0) ∗ atom T Wt c (.blk (.ag 2 0) 0 0)) from rfl,
    show St T Wt c midLeave = iprop(atom T Wt c (.wbf true) ∗ atom T Wt c (.blk (.acc 0 3) 3 0) ∗ atom T Wt c (.blk (.acc 1 3) 3 0)
      ∗ atom T Wt c (.blk (.acc 2 3) 3 0) ∗ atom T Wt c (.blk (.ag 0 0) 1 1) ∗ atom T Wt c (.blk (.ag 0 0) 1 2) ∗ atom T Wt c (.blk (.ag 0 0) 1 3)
      ∗ atom T Wt c (.blk (.ag 1 0) 1 1) ∗ atom T Wt c (.blk (.ag 1 0) 1 2) ∗ atom T Wt c (.blk (.ag 1 0) 1 3)
      ∗ atom T Wt c (.blk (.ag 2 0) 1 1) ∗ atom T Wt c (.blk (.ag 2 0) 1 2) ∗ atom T Wt c (.blk (.ag 2 0) 1 3)) from rfl]
  iintro ⟨Hw, H0, H1, H2, G0, G1, G2⟩ Hk
  iapply (product_sound (T := T) (Wt := Wt)) $$ [Hw H0 H1 H2]
  · isplitl [Hw]; · iexact Hw
    isplitl [H0]; · iexact H0
    isplitl [H1]; · iexact H1
    iexact H2
  iintro ⟨Hw, H0, H1, H2⟩
  iapply (putAg_sound (T := T) (Wt := Wt) 0) $$ G0
  iintro ⟨A0, A1, A2⟩
  iapply (putAg_sound (T := T) (Wt := Wt) 1) $$ G1
  iintro ⟨B0, B1, B2⟩
  iapply (putAg_sound (T := T) (Wt := Wt) 2) $$ G2
  iintro ⟨C0, C1, C2⟩
  iapply Hk
  isplitl [Hw]; · iexact Hw
  isplitl [H0]; · iexact H0
  isplitl [H1]; · iexact H1
  isplitl [H2]; · iexact H2
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  iexact C2

theorem at_device {k : Dev nD → PR F} {Q : PUnit → sProp 𝕄} : wpk c (.op .deviceId k) Q = wpk c (k c) Q :=
  wp_deviceId (𝒱 := 𝒱₀) (c := (c : Thread nD τ)) (bd := none) (E := Set.univ)

theorem at_end {Q : PUnit → sProp 𝕄} : Q ⟨⟩ ⊢ wpk c (.ret ⟨⟩ : PR F) Q := by
  unfold wpk
  rw [wp_ret]
  iintro H
  imodintro
  iexact H

theorem prog_sound (K : Dev nD × Cell → ℕ) {Q : PUnit → sProp 𝕄} :
    Ctx T Wt K ⊢ iprop((St T Wt c (rsProto ++ rsMem) ∗ Ow (F := F) c dues)
      -∗ ((St T Wt c (rsProto' ++ rsMem') ∗ Ow (F := F) c []) -∗ Q ⟨⟩) -∗ wpk c (prog F) Q) := by
  have h := flow_eq
  unfold flow at h
  obtain ⟨⟨a, la⟩, h1, h⟩ := Option.bind_eq_some_iff.mp h
  obtain ⟨b, h2, h⟩ := Option.bind_eq_some_iff.mp h
  obtain ⟨⟨d, ld⟩, h3, h⟩ := Option.bind_eq_some_iff.mp h
  obtain ⟨f, h4, h⟩ := Option.bind_eq_some_iff.mp h
  obtain ⟨⟨g, lg⟩, h5, h⟩ := Option.bind_eq_some_iff.mp h
  have hg : lg = [] := by
    by_contra hne
    rw [if_neg hne] at h
    exact absurd h (by simp)
  subst hg
  rw [if_pos rfl] at h
  have e1 := steps_sound (T := T) (Wt := Wt) (c := c) K opsC _ g _ [] h5 (k := .ret ⟨⟩) (Q := Q)
  have e2 := steps_sound (T := T) (Wt := Wt) (c := c) K opsB _ d _ ld h3 (k := putOut c (outV T Wt c) (steps c opsC (.ret ⟨⟩))) (Q := Q)
  unfold St at e1 e2
  rw [bigSepL_append] at e2
  rw [bigSepL_cons'] at e1
  have t4 : St T Wt c d ⊢ iprop(atom T Wt c (.blk .own 0 0) ∗ St T Wt c f) := take_all h4
  rw [show prog F = .op .deviceId _ from rfl, at_device]
  iintro #HC ⟨Hrs, HO⟩ Hk
  iapply (steps_sound K opsA _ a _ la h1) $$ HC [Hrs HO]
  · isplitl [Hrs]; · iexact Hrs
    iexact HO
  iintro ⟨Hrs, HO⟩
  ihave Hrs := (take_all h2) $$ Hrs
  icases Hrs with ⟨Hm, Hrs⟩
  iapply (mid_sound (T := T) (Wt := Wt) K) $$ Hm
  iintro Hm
  iapply e2 $$ HC [Hm Hrs HO]
  · isplitr [HO]
    · isplitl [Hm]; · iexact Hm
      iexact Hrs
    iexact HO
  iintro ⟨Hrs, HO⟩
  ihave Hrs := t4 $$ Hrs
  icases Hrs with ⟨Ho, Hrs⟩
  iapply (putOut_sound (T := T) (Wt := Wt)) $$ Ho
  iintro Ho
  iapply e1 $$ HC [Ho Hrs HO]
  · isplitr [HO]
    · isplitl [Ho]; · iexact Ho
      iexact Hrs
    iexact HO
  iintro ⟨Hrs, HO⟩
  ihave Hrs := (take_all h) $$ Hrs
  icases Hrs with ⟨Hrs, -⟩
  iapply at_end
  iapply Hk
  isplitl [Hrs]; · iexact Hrs
  iexact HO

/-! ## From whole buffers to items and back -/

/-- The rows a device accumulates into, then the others. -/
abbrev accRows (p : Fin 3) : List (Fin 8) := (List.finRange 4).map (dd p) ++ (List.finRange 4).map fun k => dd p k ^^^ m1 p

theorem accRows_all (p : Fin 3) : Finset.univ = (accRows p).toFinset := by revert p; decide
theorem accRows_nodup (p : Fin 3) : (accRows p).Nodup := by revert p; decide
theorem fins_all (n : ℕ) : (Finset.univ : Finset (Fin n)) = (List.finRange n).toFinset := by ext; simp
theorem pieces_all : (Finset.univ : Finset Piece) = pieces.toFinset := by decide
theorem pieces_nodup : pieces.Nodup := by decide

variable (T Wt c)

theorem scrs_cut (p : Fin 3) :
    iprop((∃ V, owns (c : Thread nD τ) (accM p) fullShare V) ∗ (∃ V, owns (c : Thread nD τ) (sndM p) fullShare V)
      ∗ (∃ V, owns (c : Thread nD τ) (r8M p) fullShare V) ∗ (∃ V, owns (c : Thread nD τ) (r16M p) fullShare V)) ⊢ St T Wt c (scrs 0 (fun _ => 0) p) := by
  have ha := cut_any (F := F) (c := c) (m := accM p) (r := row 8 p) (fun _ _ => rfl) (rows_disjoint 8 p) (rows_cover 8 p) _ (accRows_all p) (accRows_nodup p)
  have hs := cut_any (F := F) (c := c) (m := sndM p) (r := row 4 p) (fun _ _ => rfl) (rows_disjoint 4 p) (rows_cover 4 p) _ (fins_all 4) (List.nodup_finRange 4)
  have h8 := cut_any (F := F) (c := c) (m := r8M p) (r := row 4 p) (fun _ _ => rfl) (rows_disjoint 4 p) (rows_cover 4 p) _ (fins_all 4) (List.nodup_finRange 4)
  have h16 := cut_any (F := F) (c := c) (m := r16M p) (r := row 3 p) (fun _ _ => rfl) (rows_disjoint 3 p) (rows_cover 3 p) _ (fins_all 3) (List.nodup_finRange 3)
  rw [bigSepL_append, bigSepL_map, bigSepL_map] at ha
  unfold St scrs blks
  simp only [bigSepL_append, bigSepL_map]
  exact BI.sep_mono ha (BI.sep_mono hs (BI.sep_mono h8 h16))

theorem scrs_glue (s : ℕ) (sa : Fin 4 → ℕ) (p : Fin 3) :
    St T Wt c (scrs s sa p) ⊢ iprop((∃ V, owns (c : Thread nD τ) (accM p) fullShare V) ∗ (∃ V, owns (c : Thread nD τ) (sndM p) fullShare V)
      ∗ (∃ V, owns (c : Thread nD τ) (r8M p) fullShare V) ∗ (∃ V, owns (c : Thread nD τ) (r16M p) fullShare V)) := by
  have ha := glue_any (F := F) (c := c) (m := accM p) (r := row 8 p) (fun _ _ => rfl) (rows_disjoint 8 p) (rows_cover 8 p) _ (accRows_all p) (accRows_nodup p)
  have hs := glue_any (F := F) (c := c) (m := sndM p) (r := row 4 p) (fun _ _ => rfl) (rows_disjoint 4 p) (rows_cover 4 p) _ (fins_all 4) (List.nodup_finRange 4)
  have h8 := glue_any (F := F) (c := c) (m := r8M p) (r := row 4 p) (fun _ _ => rfl) (rows_disjoint 4 p) (rows_cover 4 p) _ (fins_all 4) (List.nodup_finRange 4)
  have h16 := glue_any (F := F) (c := c) (m := r16M p) (r := row 3 p) (fun _ _ => rfl) (rows_disjoint 3 p) (rows_cover 3 p) _ (fins_all 3) (List.nodup_finRange 3)
  rw [bigSepL_append, bigSepL_map, bigSepL_map] at ha
  unfold St scrs blks
  simp only [bigSepL_append, bigSepL_map]
  exact BI.sep_mono ((BI.sep_mono (bigSepL_mono fun i _ => blk_any (c := c) T Wt (.acc p i) (sa i) 0) (bigSepL_mono fun i _ => blk_any (c := c) T Wt (.acy p i) 0 0)).trans ha)
    (BI.sep_mono ((bigSepL_mono fun i _ => blk_any (c := c) T Wt (.snd p i) s 0).trans hs)
      (BI.sep_mono ((bigSepL_mono fun i _ => blk_any (c := c) T Wt (.r8 p i) s 0).trans h8) ((bigSepL_mono fun i _ => blk_any (c := c) T Wt (.r16 p i) s 0).trans h16)))

theorem ags_cut (p : Fin 3) : iprop(∃ V, owns (c : Thread nD τ) (agM p) fullShare V) ⊢ St T Wt c (blks (.ag p) 0) := by
  unfold St blks
  rw [bigSepL_map]
  exact cut_any (F := F) (c := c) (m := agM p) (r := row 8 p) (fun _ _ => rfl) (rows_disjoint 8 p) (rows_cover 8 p) _ (fins_all 8) (List.nodup_finRange 8)

theorem bigSepL_flatMap {I J : Type} (g : I → List J) (Φ : J → sProp 𝕄) : (l : List I) → bigSepL (l.flatMap g) Φ = bigSepL l fun i => bigSepL (g i) Φ
  | [] => rfl
  | i :: l => by rw [List.flatMap_cons, bigSepL_append, bigSepL_flatMap g Φ l, bigSepL_cons']

theorem ags_glue (p : Fin 3) : St T Wt c (agThirds p) ⊢ iprop(∃ V, owns (c : Thread nD τ) (agM p) fullShare V) := by
  unfold St agThirds
  rw [bigSepL_flatMap]
  refine (bigSepL_mono fun b _ => ?_).trans
    (glue_any (F := F) (c := c) (m := agM p) (r := row 8 p) (fun _ _ => rfl) (rows_disjoint 8 p) (rows_cover 8 p) _ (fins_all 8) (List.nodup_finRange 8))
  exact ((split_shares ((agM p).slice (row 8 p b) fun _ => rfl) (agV T Wt p b c)).2).trans
    (exists_intro (Φ := fun V => owns (c : Thread nD τ) ((agM p).slice (row 8 p b) fun _ => rfl) fullShare V) _)

theorem outs_eq (s : ℕ) : St T Wt c (outs s) = bigSepL pieces fun t => atom T Wt c (match t with | none => .blk .own s 0 | some (p, i) => .blk (.ou p i) s 0) := by
  unfold St outs pieces blks
  simp only [bigSepL_cons', bigSepL_flatMap, bigSepL_map]

theorem outs_cut : iprop(∃ V, owns (c : Thread nD τ) outM fullShare V) ⊢ St T Wt c (outs 0) := by
  rw [outs_eq]
  refine (cut_any (F := F) (c := c) (m := outM) (r := outR c) (fun t a => by rcases t with _ | ⟨p, i⟩ <;> rfl) (outR_disjoint c) (outR_cover c) _ pieces_all pieces_nodup).trans
    (bigSepL_mono fun t _ => ?_)
  rcases t with _ | ⟨p, i⟩ <;> exact .rfl

theorem outs_glue : St T Wt c (outs 1) ⊢ owns (c : Thread nD τ) outM fullShare (resV T Wt c) := by
  rw [outs_eq]
  refine BI.Entails.trans (bigSepL_mono fun t _ => ?_)
    (glue_val (F := F) (c := c) (m := outM) (r := outR c) (fun t a => by rcases t with _ | ⟨p, i⟩ <;> rfl) (outR_disjoint c) (outR_cover c) _ pieces_all pieces_nodup
      (pieceV T Wt c))
  rcases t with _ | ⟨p, i⟩ <;> exact .rfl

/-- A whole scratch buffer. -/
abbrev scr (b : Ref sig .tc) : sProp 𝕄 := iprop(∃ f, ((c : Thread nD τ).loc b) ↦{fullShare} f)

theorem scr_eq (b : Ref sig .tc) : iprop(∃ V, owns (c : Thread nD τ) (Memref.whole b) fullShare V) = scr (F := F) c b := by simp only [owns_whole]

theorem acc_whole : (p : Fin 3) → iprop(∃ V, owns (c : Thread nD τ) (accM p) fullShare V) = scr (F := F) c (![cc0_scratch1, cc0_scratch2, cc0_scratch3] p)
  | 0 => scr_eq c cc0_scratch1 | 1 => scr_eq c cc0_scratch2 | 2 => scr_eq c cc0_scratch3
theorem snd_whole : (p : Fin 3) → iprop(∃ V, owns (c : Thread nD τ) (sndM p) fullShare V) = scr (F := F) c (![cc0_scratch4, cc0_scratch5, cc0_scratch6] p)
  | 0 => scr_eq c cc0_scratch4 | 1 => scr_eq c cc0_scratch5 | 2 => scr_eq c cc0_scratch6
theorem r8_whole : (p : Fin 3) → iprop(∃ V, owns (c : Thread nD τ) (r8M p) fullShare V) = scr (F := F) c (![cc0_scratch7, cc0_scratch8, cc0_scratch9] p)
  | 0 => scr_eq c cc0_scratch7 | 1 => scr_eq c cc0_scratch8 | 2 => scr_eq c cc0_scratch9
theorem r16_whole : (p : Fin 3) → iprop(∃ V, owns (c : Thread nD τ) (r16M p) fullShare V) = scr (F := F) c (![cc0_scratch10, cc0_scratch11, cc0_scratch12] p)
  | 0 => scr_eq c cc0_scratch10 | 1 => scr_eq c cc0_scratch11 | 2 => scr_eq c cc0_scratch12
theorem ag_whole : (p : Fin 3) → iprop(∃ V, owns (c : Thread nD τ) (agM p) fullShare V) = scr (F := F) c (![cc0_scratch13, cc0_scratch14, cc0_scratch15] p)
  | 0 => scr_eq c cc0_scratch13 | 1 => scr_eq c cc0_scratch14 | 2 => scr_eq c cc0_scratch15

theorem mem_list (o : List Res) (w : Res) (f g : Fin 3 → List Res) :
    St T Wt c ([.tin, .win] ++ (o ++ (w :: ([0, 1, 2].flatMap f ++ [0, 1, 2].flatMap g))))
      = iprop((atom T Wt c .tin ∗ atom T Wt c .win) ∗ St T Wt c o ∗ atom T Wt c w ∗ (St T Wt c (f 0) ∗ St T Wt c (f 1) ∗ St T Wt c (f 2))
        ∗ (St T Wt c (g 0) ∗ St T Wt c (g 1) ∗ St T Wt c (g 2))) := by
  unfold St
  rw [bigSepL_append, bigSepL_append o, bigSepL_cons' w, bigSepL_append, bigSepL_flatMap, bigSepL_flatMap]
  rfl

theorem mem_enter :
    iprop(((c : Thread nD τ).loc cc0_stg0_0 ↦{fullShare} T c) ∗ ((c : Thread nD τ).loc cc0_stg1_0 ↦{fullShare} Wt c) ∗ scr c cc0_stg2_0
        ∗ (Pipeline.scopedRest spec0 c : sProp 𝕄)) ⊢ St T Wt c rsMem := by
  have hs := scrs_cut T Wt c
  have hg := ags_cut T Wt c
  have ho := outs_cut T Wt c
  simp only [acc_whole, snd_whole, r8_whole, r16_whole] at hs
  simp only [ag_whole] at hg
  rw [show iprop(∃ V, owns (c : Thread nD τ) outM fullShare V) = scr (F := F) c cc0_stg2_0 from scr_eq c cc0_stg2_0] at ho
  have hs0 : iprop(scr c cc0_scratch1 ∗ scr c cc0_scratch4 ∗ scr c cc0_scratch7 ∗ scr c cc0_scratch10) ⊢ _ := hs 0
  have hs1 : iprop(scr c cc0_scratch2 ∗ scr c cc0_scratch5 ∗ scr c cc0_scratch8 ∗ scr c cc0_scratch11) ⊢ _ := hs 1
  have hs2 : iprop(scr c cc0_scratch3 ∗ scr c cc0_scratch6 ∗ scr c cc0_scratch9 ∗ scr c cc0_scratch12) ⊢ _ := hs 2
  have hg0 : scr c cc0_scratch13 ⊢ _ := hg 0
  have hg1 : scr c cc0_scratch14 ⊢ _ := hg 1
  have hg2 : scr c cc0_scratch15 ⊢ _ := hg 2
  unfold rsMem
  rw [scopedRest0_eq, mem_list,
    show atom T Wt c .tin = (((c : Thread nD τ).loc cc0_stg0_0) ↦{fullShare} T c) from rfl,
    show atom T Wt c .win = (((c : Thread nD τ).loc cc0_stg1_0) ↦{fullShare} Wt c) from rfl,
    show atom T Wt c (.wbf false) = scr c cc0_scratch0 from rfl]
  iintro ⟨Ht, Hw, Ho, Hb, A0, A1, A2, S0, S1, S2, E0, E1, E2, R0, R1, R2, G0, G1, G2⟩
  isplitl [Ht Hw]
  · isplitl [Ht]; · iexact Ht
    iexact Hw
  isplitl [Ho]; · iapply ho $$ Ho
  isplitl [Hb]; · iexact Hb
  isplitl [A0 A1 A2 S0 S1 S2 E0 E1 E2 R0 R1 R2]
  · isplitl [A0 S0 E0 R0]
    · iapply hs0
      isplitl [A0]; · iexact A0
      isplitl [S0]; · iexact S0
      isplitl [E0] <;> iassumption
    isplitl [A1 S1 E1 R1]
    · iapply hs1
      isplitl [A1]; · iexact A1
      isplitl [S1]; · iexact S1
      isplitl [E1] <;> iassumption
    · iapply hs2
      isplitl [A2]; · iexact A2
      isplitl [S2]; · iexact S2
      isplitl [E2] <;> iassumption
  · isplitl [G0]; · iapply hg0 $$ G0
    isplitl [G1]; · iapply hg1 $$ G1
    iapply hg2 $$ G2

theorem mem_exit :
    St T Wt c rsMem' ⊢ iprop(((c : Thread nD τ).loc cc0_stg0_0 ↦{fullShare} T c) ∗ ((c : Thread nD τ).loc cc0_stg1_0 ↦{fullShare} Wt c)
      ∗ ((c : Thread nD τ).loc cc0_stg2_0 ↦{fullShare} resV T Wt c) ∗ (Pipeline.scopedRest spec0 c : sProp 𝕄)) := by
  have hs := scrs_glue T Wt c 1 ![1, 1, 2, 3]
  have hg := ags_glue T Wt c
  have ho := outs_glue T Wt c
  simp only [acc_whole, snd_whole, r8_whole, r16_whole] at hs
  simp only [ag_whole] at hg
  rw [show owns (c : Thread nD τ) outM fullShare (resV T Wt c) = (((c : Thread nD τ).loc cc0_stg2_0) ↦{fullShare} resV T Wt c) from owns_whole _ _ _ _] at ho
  have hs0 : _ ⊢ iprop(scr c cc0_scratch1 ∗ scr c cc0_scratch4 ∗ scr c cc0_scratch7 ∗ scr c cc0_scratch10) := hs 0
  have hs1 : _ ⊢ iprop(scr c cc0_scratch2 ∗ scr c cc0_scratch5 ∗ scr c cc0_scratch8 ∗ scr c cc0_scratch11) := hs 1
  have hs2 : _ ⊢ iprop(scr c cc0_scratch3 ∗ scr c cc0_scratch6 ∗ scr c cc0_scratch9 ∗ scr c cc0_scratch12) := hs 2
  have hg0 : _ ⊢ scr c cc0_scratch13 := hg 0
  have hg1 : _ ⊢ scr c cc0_scratch14 := hg 1
  have hg2 : _ ⊢ scr c cc0_scratch15 := hg 2
  unfold rsMem'
  rw [scopedRest0_eq, mem_list,
    show atom T Wt c .tin = (((c : Thread nD τ).loc cc0_stg0_0) ↦{fullShare} T c) from rfl,
    show atom T Wt c .win = (((c : Thread nD τ).loc cc0_stg1_0) ↦{fullShare} Wt c) from rfl,
    show atom T Wt c (.wbf true) = (((c : Thread nD τ).loc cc0_scratch0) ↦{fullShare} wV Wt c) from rfl]
  iintro ⟨⟨Ht, Hw⟩, Ho, Hb, ⟨S0, S1, S2⟩, G0, G1, G2⟩
  ihave S0 := hs0 $$ S0
  ihave S1 := hs1 $$ S1
  ihave S2 := hs2 $$ S2
  icases S0 with ⟨A0, S0, E0, R0⟩
  icases S1 with ⟨A1, S1, E1, R1⟩
  icases S2 with ⟨A2, S2, E2, R2⟩
  isplitl [Ht]; · iexact Ht
  isplitl [Hw]; · iexact Hw
  isplitl [Ho]; · iapply ho $$ Ho
  isplitl [Hb]; · iexists (wV Wt c); iexact Hb
  isplitl [A0]; · iexact A0
  isplitl [A1]; · iexact A1
  isplitl [A2]; · iexact A2
  isplitl [S0]; · iexact S0
  isplitl [S1]; · iexact S1
  isplitl [S2]; · iexact S2
  isplitl [E0]; · iexact E0
  isplitl [E1]; · iexact E1
  isplitl [E2]; · iexact E2
  isplitl [R0]; · iexact R0
  isplitl [R1]; · iexact R1
  isplitl [R2]; · iexact R2
  isplitl [G0]; · iapply hg0 $$ G0
  isplitl [G1]; · iapply hg1 $$ G1
  iapply hg2 $$ G2

end Cert.KProof

end
-- ==== Proof.Launch.lean ====
/-
  # The launch

  What the launch gives is turned into what the devices start from — the cells, the tokens dealt to the devices that pay
  with them, the credit of what the others owe — and the whole mesh's run follows from one device's.
-/
module

public import proofs.«01_k».proof.Proof.Body
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev EP : Emb (UR sig nD τ) 𝕄 := embL

/-! ## The cells and the tokens -/

section Cells

variable (T : Dev nD → TBuf F) (Wt : Dev nD → WBuf F)

def pair (ck : Dev nD × Cell) : GSem nD τ sig := gcell ck.1 ck.2
theorem pair_inj : Function.Injective pair := fun a b h => Prod.ext (gcell_inj h).1 (gcell_inj h).2
def meshCells : Finset (GSem nD τ sig) := Finset.univ.map ⟨pair, pair_inj⟩

/-- A device's tokens: its barrier's three, one for each transfer's two cells. -/
abbrev Tok := Fin 3 ⊕ (Bool × X)

def tokKey (cj : Dev nD × Tok) : GSem nD τ sig × ℕ × Fin 3 := match cj with
  | (c, .inl e) => (gcell c none, 0, e)
  | (c, .inr bx) => (gcell c (some bx), 0, 0)
theorem tokKey_inj : Function.Injective tokKey := by
  rintro ⟨c, j⟩ ⟨c', j'⟩ h
  rcases j with e | bx <;> rcases j' with e' | bx'
  · obtain ⟨rfl, -⟩ := gcell_inj (congrArg (·.1) h)
    have : e = e' := congrArg (·.2.2) h
    rw [this]
  · exact absurd (gcell_inj (congrArg (·.1) h)).2 nofun
  · exact absurd (gcell_inj (congrArg (·.1) h)).2 nofun
  · obtain ⟨rfl, hb⟩ := gcell_inj (congrArg (·.1) h)
    rw [Option.some.inj hb]
def meshToks : Finset (GSem nD τ sig × ℕ × Fin 3) := Finset.univ.map ⟨tokKey, tokKey_inj⟩

def u₀ : UU := (initOf (Pipeline.cells cfgs cellOf_inj) (Pipeline.launchToks cfgs cellOf_inj), initOf meshCells meshToks)

def ownTok (c : Dev nD) (j : Tok) : sProp 𝕄 := dutyTok ER (tokKey (c, j)).1 (tokKey (c, j)).2.1 (tokKey (c, j)).2.2
/-- The token a device pays with: of a partner's cell, where the payment goes to a partner. -/
def away : Tok → Fin 8 | .inl e => mk e | .inr (false, _) => 0 | .inr (true, x) => x.mask
def payTok (c : Dev nD) (j : Tok) : sProp 𝕄 := ownTok (nb (away j) c) j

theorem toks_around :
    (bigSep Finset.univ fun c : Dev nD => bigSep Finset.univ fun j : Tok => (ownTok c j : sProp 𝕄)) = bigSep Finset.univ fun c : Dev nD => bigSep Finset.univ fun j : Tok => payTok c j := by
  rw [bigSep_univ_comm, bigSep_congr fun (j : Tok) _ => bigSep_univ_equiv (nbEquiv (away j)) fun c : Dev nD => (ownTok c j : sProp 𝕄), bigSep_univ_comm]
  rfl

/-- What a device is dealt of the launch's element. -/
def G (c : Dev nD) : sProp 𝕄 :=
  iprop((bigSep Finset.univ fun k : Cell => roundState ER (Rd T Wt) (gcell c k) 0)
    ∗ (bigSep Finset.univ fun k : Cell => iprop(atPos ER (gcell c k) 0 ∅ 0 ∗ reached ER (gcell c k) 0)) ∗ bigSep Finset.univ fun j : Tok => ownTok c j)

theorem fund_mesh : BI.own (ER (initOf meshCells meshToks)) ⊢ (|==> bigSep Finset.univ (G T Wt) : sProp 𝕄) := by
  have hX (Φ : GSem nD τ sig → sProp 𝕄) : bigSep meshCells Φ = bigSep Finset.univ fun c : Dev nD => bigSep Finset.univ fun k : Cell => Φ (gcell c k) := by
    unfold meshCells; rw [bigSep_map, bigSep_univ_prod]; rfl
  have hT : bigSep meshToks (fun x => (dutyTok ER x.1 x.2.1 x.2.2 : sProp 𝕄)) = bigSep Finset.univ fun c : Dev nD => bigSep Finset.univ fun j : Tok => ownTok c j := by
    unfold meshToks; rw [bigSep_map, bigSep_univ_prod]; rfl
  iintro HX
  imod (Rounds.fund ER (Rd T Wt) meshCells meshToks) $$ HX with ⟨Hst, Hr, Hat, Htok⟩
  imodintro
  ihave Hst' := (Entails.of_eq (hX fun g => roundState ER (Rd T Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem allBX_all : (Finset.univ : Finset (Bool × X)) = allBX.toFinset := by
  refine (Finset.eq_univ_iff_forall.mpr fun x => ?_).symm
  rw [List.mem_toFinset]; exact mem_allBX x
theorem allBX_nodup : allBX.Nodup := by decide +kernel
theorem allCells_all : (Finset.univ : Finset Cell) = allCells.toFinset := by
  refine (Finset.eq_univ_iff_forall.mpr fun x => ?_).symm
  rw [List.mem_toFinset]; exact mem_allCells x
theorem allCells_nodup : allCells.Nodup := by decide +kernel

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSepL allBX fun bx => semVal (gcell c (some bx)) 0 :=
  Pipeline.ownSems0_eq_of_list c osem allBX allBX_all allBX_nodup
theorem unscopedSems0_eq (c : Dev nD) : (unscopedSems0 c : sProp 𝕄) = semVal (gcell c none) 0 := by
  unfold unscopedSems0; rw [bigSep_eq_bigSepL_of_eq [SemLoc.reg barSem] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (gcell c k) 0 : sProp 𝕄) := by
  rw [ownSems0_eq, unscopedSems0_eq, bigSep_univ_eq_bigSepL allCells allCells_all allCells_nodup, bigSepL_cons', bigSepL_map]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G T Wt c)
      ⊢ |={Set.univ}=> iprop((bigSep Finset.univ fun k : Cell => iprop(∃ κ : ℕ, cellInv ER (Rd T Wt) κ (gcell c k)))
          ∗ (bigSep Finset.univ fun k : Cell => iprop(atPos ER (gcell c k) 0 ∅ 0 ∗ reached ER (gcell c k) 0)) ∗ bigSep Finset.univ fun j : Tok => ownTok c j) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (gcell c k) 0) ∗ bigSep Finset.univ fun k : Cell => roundState ER (Rd T Wt) (gcell c k) 0)
      ⊢ (|={Set.univ}=> bigSep Finset.univ fun k : Cell => iprop(∃ κ : ℕ, cellInv ER (Rd T Wt) κ (gcell c k)) : sProp 𝕄) from by
        rw [← bigSep_sep']
        exact (bigSep_mono fun k _ => (Rounds.body_intro ER (Rd T Wt) (gcell c k)).trans inv_alloc).trans (bigSep_fupd _ _)) $$ [Hv Hst] with Hinv
  · isplitl [Hv] <;> iassumption
  imodintro
  isplitl [Hinv]; · iexact Hinv
  isplitl [Hat]; · iexact Hat
  iexact Htok

/-- What every device learns; what each device has for itself. -/
def known (K : Dev nD × Cell → ℕ) : sProp 𝕄 :=
  iprop((bigSep Finset.univ fun ck : Dev nD × Cell => cellInv ER (Rd T Wt) (K ck) (gcell ck.1 ck.2))
    ∗ bigSep Finset.univ fun ck : Dev nD × Cell => reached ER (gcell ck.1 ck.2) 0)
instance known_persistent (K : Dev nD × Cell → ℕ) : BI.Persistent (known T Wt K) := by unfold known; infer_instance

def held (c : Dev nD) : sProp 𝕄 :=
  iprop((bigSep Finset.univ fun k : Cell => atPos ER (gcell c k) 0 ∅ 0) ∗ bigSep Finset.univ fun j : Tok => payTok c j)
def G' (c : Dev nD) : sProp 𝕄 := iprop(∃ K, known T Wt K ∗ held c)

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd T Wt) κ (gcell c k)))
          ∗ (bigSep Finset.univ fun k : Cell => iprop(atPos ER (gcell c k) 0 ∅ 0 ∗ reached ER (gcell c k) 0)) ∗ bigSep Finset.univ fun j : Tok => ownTok c j) : sProp 𝕄)
      ⊢ bigSep Finset.univ (G' T Wt) := by
  rw [bigSep_sep', bigSep_sep', toks_around, ← bigSep_univ_prod (fun ck : Dev nD × Cell => iprop(∃ κ : ℕ, cellInv ER (Rd T Wt) κ (gcell ck.1 ck.2))),
    bigSep_congr (s := Finset.univ) (fun (c : Dev nD) _ => bigSep_sep' Finset.univ (fun k : Cell => (atPos ER (gcell c k) 0 ∅ 0 : sProp 𝕄)) (fun k => reached ER (gcell c k) 0)),
    bigSep_sep', ← bigSep_univ_prod (fun ck : Dev nD × Cell => (reached ER (gcell ck.1 ck.2) 0 : sProp 𝕄))]
  iintro ⟨HI, ⟨Hat, #HR⟩, Htok⟩
  ihave HK := (BI.bigSep_exists_pi Finset.univ (fun (ck : Dev nD × Cell) (κ : ℕ) => (cellInv ER (Rd T Wt) κ (gcell ck.1 ck.2) : sProp 𝕄))) $$ HI
  icases HK with ⟨%K, #HI⟩
  iapply (with_known (R := known T Wt K) (Φ := fun c => held c) fun c _ => exists_intro (Φ := fun K => iprop(known T Wt K ∗ held c)) K)
  isplitr
  · unfold known; isplitl; · iexact HI
    iexact HR
  · unfold held
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G T Wt c) : sProp 𝕄)
    ⊢ |={Set.univ}=> bigSep Finset.univ (G' T Wt) :=
  ((bigSep_mono fun c _ => core_alloc T Wt c).trans (bigSep_fupd _ _)).trans (BI.fupd_mono (regroup T Wt))

end Cells

/-! ## The credit -/

def Due.key : Due → Cell | .sg _ => none | .xf x => some (true, x)
def Due.over : Due → Fin 8 | .sg e => mk e | .xf x => x.mask
theorem Due.cell_eq (c : Dev nD) : (d : Due) → d.cell c = gcell (nb d.over c) d.key | .sg _ => rfl | .xf _ => rfl

/-- What the devices together owe a cell. -/
def total (k : Cell) (l : List Due) : ℕ := (l.map fun d => if d.key = k then d.amt else 0).sum

theorem owed_total (c : Dev nD) (k : Cell) : (l : List Due) → ∑ d : Dev nD, owed d l (gcell c k) () = total k l
  | [] => Finset.sum_eq_zero fun d _ => rfl
  | e :: l => by
    have h (d : Dev nD) : owed d (e :: l) (gcell c k) () = owed d l (gcell c k) () + if d = nb e.over c then (if e.key = k then e.amt else 0) else 0 := by
      rw [show owed d (e :: l) = owed d l + tallyAt (e.cell d) () e.amt from rfl, Pi.add_apply, Finsupp.add_apply, tallyAt_apply, Due.cell_eq]
      refine congrArg _ ?_
      by_cases h1 : gcell c k = gcell (nb e.over d) e.key
      · obtain ⟨h2, h3⟩ := gcell_inj h1
        rw [if_pos ⟨h1, rfl⟩, if_pos (by rw [h2, nb_self]), if_pos h3.symm]
      · rw [if_neg fun h => h1 h.1]
        by_cases h2 : d = nb e.over c
        · rw [if_pos h2, if_neg fun h3 => h1 (by rw [h2, nb_self, h3])]
        · rw [if_neg h2]
    rw [Finset.sum_congr rfl fun d _ => h d, Finset.sum_add_distrib, owed_total c k l, Finset.sum_ite_eq' Finset.univ _ fun _ => _, if_pos (Finset.mem_univ _)]
    unfold total
    rw [List.map_cons, List.sum_cons, Nat.add_comm]

theorem total_bar : total none dues = 3 := by decide +kernel
theorem total_all : (X.all.all fun x => decide (total (some (true, x)) dues = x.N)) = true := by decide +kernel
theorem total_xf (x : X) : total (some (true, x)) dues = x.N := of_decide_eq_true (List.all_eq_true.mp total_all x (X.mem_all x))

theorem launch_cell (c : Dev nD) (k : Cell) :
    tallyOn (gcell c k) (launchCredit (Pipeline.owing fun d => owed d dues) 0 (gcell c k)) = (tallyAt (gcell c k) () (total k dues) : CellTallies nD τ sig Unit) := by
  unfold tallyAt; refine congrArg _ (Finsupp.ext fun u => ?_); cases u
  rw [Pipeline.launchCredit_owing, Finsupp.single_eq_same, owed_total]

theorem creds (c : Dev nD) :
    (Pipeline.launchCred (fun d => owed d dues) c : sProp 𝕄) ⊢ bigSep Finset.univ fun k : Cell => cred (tallyAt (gcell c k) () (total k dues)) := by
  unfold Pipeline.launchCred
  refine (BI.bigSep_subset (Finset.subset_univ (Finset.univ.map ⟨csem, csem_inj⟩))).trans ?_
  rw [bigSep_map]
  exact Entails.of_eq (bigSep_congr fun k _ => congrArg cred (launch_cell c k))

/-! ## The items at the start and in the end -/

theorem xs_all : (Finset.univ : Finset X) = X.all.toFinset := by
  refine (Finset.eq_univ_iff_forall.mpr fun x => ?_).symm
  rw [List.mem_toFinset]; exact X.mem_all x

theorem xs_sep (Φ Ψ : X → sProp 𝕄) : (bigSepL X.all fun x => iprop(Φ x ∗ Ψ x)) = iprop(bigSepL X.all Φ ∗ bigSepL X.all Ψ) := by
  simp only [← bigSep_univ_eq_bigSepL X.all xs_all X.all_nodup]
  exact bigSep_sep' _ _ _

theorem over_bx (Φ : Bool × X → sProp 𝕄) :
    bigSepL allBX Φ = iprop((bigSepL X.all fun x => Φ (false, x)) ∗ bigSepL X.all fun x => Φ (true, x)) := by
  rw [bigSepL_append, bigSepL_map, bigSepL_map]

theorem over_cells (Φ : Cell → sProp 𝕄) :
    bigSep Finset.univ Φ = iprop(Φ none ∗ (bigSepL X.all fun x => Φ (some (false, x))) ∗ bigSepL X.all fun x => Φ (some (true, x))) := by
  rw [bigSep_univ_eq_bigSepL allCells allCells_all allCells_nodup, bigSepL_cons', bigSepL_map, over_bx]

theorem over_toks (Φ : Tok → sProp 𝕄) :
    bigSep Finset.univ Φ = iprop((Φ (.inl 0) ∗ Φ (.inl 1) ∗ Φ (.inl 2)) ∗ (bigSepL X.all fun x => Φ (.inr (false, x))) ∗ bigSepL X.all fun x => Φ (.inr (true, x))) := by
  rw [show bigSep Finset.univ Φ = iprop((bigSep Finset.univ fun a => Φ (.inl a)) ∗ bigSep Finset.univ fun b => Φ (.inr b)) from bigSep_univ_sum Φ,
    bigSep_univ_eq_bigSepL [0, 1, 2] (by decide) (by decide), bigSep_univ_eq_bigSepL allBX allBX_all allBX_nodup, over_bx]
  rfl

section Items

variable (T : Dev nD → TBuf F) (Wt : Dev nD → WBuf F)

theorem proto_enter (c : Dev nD) :
    iprop(held c ∗ bigSep Finset.univ fun k : Cell => cred (tallyAt (gcell c k) () (total k dues))) ⊢ St T Wt c rsProto := by
  have hS : (bigSepL X.all fun x => atom T Wt c (.S0 x))
      = iprop((bigSepL X.all fun x => payTok c (.inr (false, x))) ∗ (bigSepL X.all fun x => payTok c (.inr (true, x)))
        ∗ bigSepL X.all fun x => atPos ER (gcell c (some (false, x))) 0 ∅ 0) := by
    rw [← xs_sep, ← xs_sep]
    refine congrArg (bigSepL X.all) (funext fun x => ?_)
    rw [show (payTok c (.inr (false, x)) : sProp 𝕄) = dutyTok ER (gcell (nb 0 c) (some (false, x))) 0 0 from rfl, nb_zero]
    rfl
  have hR : (bigSepL X.all fun x => atom T Wt c (.R0 x))
      = iprop((bigSepL X.all fun x => cred (tallyAt (gcell c (some (true, x))) () (total (some (true, x)) dues)))
        ∗ bigSepL X.all fun x => atPos ER (gcell c (some (true, x))) 0 ∅ 0) := by
    rw [← xs_sep]
    exact congrArg (bigSepL X.all) (funext fun x => by rw [total_xf]; rfl)
  unfold held rsProto
  rw [over_cells, over_toks, over_cells, total_bar]
  unfold St
  rw [bigSepL_cons', bigSepL_append, bigSepL_append, bigSepL_map, bigSepL_map, hS, hR,
    show atom T Wt c .B0 = iprop(cred (tallyAt (gcell c none) () 3) ∗ atPos ER (gcell c none) 0 ∅ 0) from rfl,
    show bigSepL [Res.G 0, .G 1, .G 2] (atom T Wt c) = iprop(payTok c (.inl 0) ∗ payTok c (.inl 1) ∗ payTok c (.inl 2)) from rfl]
  iintro ⟨⟨⟨HpB, HpS, HpR⟩, HtG, HtS, HtR⟩, HcB, -, HcR⟩
  isplitl [HcB HpB]
  · isplitl [HcB] <;> iassumption
  isplitl [HtG]; · iexact HtG
  isplitl [HtS HtR HpS]
  · isplitl [HtS]; · iexact HtS
    isplitl [HtR] <;> iassumption
  isplitl [HcR] <;> iassumption

theorem proto_exit (c : Dev nD) :
    St T Wt c rsProto' ⊢ iprop(unscopedSems0 c ∗ Pipeline.ownSems0 (Ix := Unit) (Name := ℕ) (U := UU) (Lvl := ℕ) (Val := Elt F) (τ := τ) osem c) := by
  unfold St rsProto'
  rw [ownSems0_eq, unscopedSems0_eq, over_bx, bigSepL_cons', bigSepL_append, bigSepL_map, bigSepL_map]
  exact .rfl

end Items

/-! ## The pipeline's data -/

variable (m : (ℓ : Loc nD τ sig) → Buf (Elt F) ℓ) (ρ : Dev nD → PrngReg)

def t₀ : Fin cfg0.N := ⟨0, by decide⟩
theorem fin_N (t : Fin cfg0.N) : t = t₀ := by
  obtain ⟨t, ht⟩ := t
  have h : cfg0.N = 1 := by decide
  exact Fin.ext (by simp only [t₀]; omega)

def s₀ : MemSt nD τ sig (Elt F) := ⟨m, fun _ => 0, ρ⟩

/-- The two inputs as each device finds them in its windows. -/
def Tin (c : Dev nD) : TBuf F := (win0_0.blk t₀).view.read (Elt F) (m (win0_0.arr.view.loc (c : Thread nD τ)))
def Win (c : Dev nD) : WBuf F := (win0_1.blk t₀).view.read (Elt F) (m (win0_1.arr.view.loc (c : Thread nD τ)))
/-- Device `c`'s result. -/
abbrev target (c : Dev nD) : (cc0_stg2_0 : Ref sig .tc).ty.Contents (Elt F) := resV (Tin m) (Win m) c

def start (c : Dev nD) : sProp 𝕄 :=
  iprop(G' (Tin m) (Win m) c ∗ (bigSep Finset.univ fun k : Cell => cred (tallyAt (gcell c k) () (total k dues))) ∗ levAts L lv)
def Φ₀ (c : Dev nD) : sProp 𝕄 := iprop(start m c ∗ Pipeline.scopedRest spec0 c)
def Φ₁ (c : Dev nD) : sProp 𝕄 := iprop((unscopedSems0 c ∗ Pipeline.ownSems0 osem c) ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Tin m c
    | ⟨1, _⟩ => Win m c
    | ⟨2, _⟩ => target m c
  Φ t := match t with
    | ⟨0, _⟩ => Φ₀ m c
    | ⟨_ + 1, _⟩ => Φ₁ c
  q _ := fullShare
  owed t := match t with
    | ⟨0, _⟩ => owed c dues
    | ⟨_ + 1, _⟩ => 0

theorem share_eq (c : Dev nD) (w : Fin cfg0.W) : (dats m ρ 0 c).share w = fullShare := by unfold Dat.share; split <;> rfl

/-! ## The body -/

abbrev stg (c : Dev nD) (b : Ref sig .tc) (X : b.ty.Contents (Elt F)) : sProp 𝕄 := ((c : Thread nD τ).loc b) ↦{fullShare} X

def bodyPost (c : Dev nD) : sProp 𝕄 :=
  iprop(Φ₁ c ∗ (dats m ρ 0 c).owesAt () t₀.succ ∗ stg c cc0_stg0_0 (Tin m c) ∗ stg c cc0_stg1_0 (Win m c) ∗ stg c cc0_stg2_0 (target m c))
def bodyPre (c : Dev nD) : sProp 𝕄 :=
  iprop(Φ₀ m c ∗ (dats m ρ 0 c).owesAt () t₀.castSucc ∗ (∃ d, stg c cc0_stg0_0 ((dats m ρ 0 c).before (0 : Fin 3) t₀ d))
    ∗ (∃ d, stg c cc0_stg1_0 ((dats m ρ 0 c).before (1 : Fin 3) t₀ d)) ∗ (∃ d, stg c cc0_stg2_0 ((dats m ρ 0 c).before (2 : Fin 3) t₀ d)))

theorem before_0 (c : Dev nD) (d) : (dats m ρ 0 c).before (0 : Fin 3) t₀ d = Tin m c := by unfold Dat.before; rw [if_pos (fetch0_0 t₀)]; rfl
theorem before_1 (c : Dev nD) (d) : (dats m ρ 0 c).before (1 : Fin 3) t₀ d = Win m c := by unfold Dat.before; rw [if_pos (fetch0_1 t₀)]; rfl

theorem body_sound (c : Dev nD) : bodyPre m ρ c ⊢ wpk c (prog F) fun _ => bodyPost m ρ c := by
  unfold bodyPre Φ₀ start G' Dat.owesAt Pipeline.owesWithin
  simp only [before_0, before_1]
  iintro ⟨⟨⟨⟨%K, #HK, Hh⟩, Hcr, #Hlev⟩, Hsc⟩, ⟨%W, %hW, HO⟩, ⟨%d0, Ht⟩, ⟨%d1, Hw⟩, ⟨%d2, Ho⟩⟩
  unfold known
  icases HK with ⟨#HI, #HR⟩
  ihave Hp := (proto_enter (Tin m) (Win m) c) $$ [Hh Hcr]
  · isplitl [Hh] <;> iassumption
  ihave Hm := (mem_enter (Tin m) (Win m) c) $$ [Ht Hw Ho Hsc]
  · isplitl [Ht]; · iexact Ht
    isplitl [Hw]; · iexact Hw
    isplitl [Ho]; · iexists _; iexact Ho
    iexact Hsc
  iapply (prog_sound (T := Tin m) (Wt := Win m) (c := c) K) $$ [] [Hp Hm HO]
  · unfold Ctx
    isplitr; · iexact HI
    isplitr; · iexact HR
    iexact Hlev
  · isplitr [HO]
    · unfold St; rw [bigSepL_append]
      isplitl [Hp] <;> iassumption
    · unfold Ow; iexists W; iexact HO
  unfold St Ow
  rw [bigSepL_append]
  iintro ⟨⟨Hp, Hm⟩, ⟨%W', HO⟩⟩
  ihave Hp := (proto_exit (Tin m) (Win m) c) $$ Hp
  ihave Hm := (mem_exit (Tin m) (Win m) c) $$ Hm
  icases Hm with ⟨Ht, Hw, Ho, Hsc⟩
  unfold bodyPost Φ₁ Dat.owesAt Pipeline.owesWithin
  isplitl [Hp Hsc]
  · isplitl [Hp]; · iexact Hp
    iexact Hsc
  isplitl [HO]
  · iexists W'
    isplitr; · ipureintro; exact fun _ _ => Or.inl trivial
    iexact HO
  isplitl [Ht]; · iexact Ht
  isplitl [Hw]; · iexact Hw
  iexact Ho

set_option maxRecDepth 200000 in
theorem body_obligation (c : Dev nD) : BodyObligation (dats (F := F) m ρ 0 c) (defs₀ (F := F)) 𝒱₀ () Set.univ := fun t => by
  rw [fin_N t]
  rw [bigSep_W0, bigSep_W0]
  simp only [owns_whole]
  have h : bodyPre m ρ c ⊢ wpk c (body (F := F)) fun _ => bodyPost m ρ c := by rw [body_eq]; exact body_sound m ρ c
  exact h

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => owed d dues) c ∗ prngReg c (ρ c) ∗ G' (Tin m) (Win m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨Hu, Ho⟩, Hr⟩
  isplitl [Hu]; · iexact Hu
  isplitl [Ho]; · iexact Ho
  iexact Hr

theorem stage_level (w : Fin cfg0.W) (s : Fin (cfg0.win w).nbuf) : levC (decode (.dma ((cfg0.win w).sem s))) = 0 := by
  fin_cases w <;> fin_cases s <;> decide +kernel
theorem dues_level : ∀ d ∈ dues, 0 < d.lev order := fun d _ => by cases d <;> simp [Due.lev]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (stage_level w s) dues dues_level
    · exact mayWait c _ 0 (stage_level w s) [] (fun _ h => absurd h List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- For any float values, from any memory with zero counters: the eight devices' run ends, with every device's arrays at
    the contents the proof data names and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d dues) (howed₀ := fun _ => rfl) (howedN := fun _ => rfl)
    (L := L) (lv := lv) (hL := L_of_ne) (hwaits := waits m ρ)
    (G := G (Tin m) (Win m)) (G' := G' (Tin m) (Win m)) (u₀ := u₀)
    (hu₀ := by
      unfold u₀
      iintro Hu
      ihave H := (ownU_pair _ _) $$ Hu
      icases H with ⟨HP, HX⟩
      imod (fund_mesh (Tin m) (Win m)) $$ HX with HG
      imodintro
      isplitl [HP] <;> iassumption)
    (hglob := glob (Tin m) (Win m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 3) = m (win0_0.arr.view.loc (c : Thread nD τ)) :=
  (dats (F := F) m ρ 0 c).arrAt_in (0 : Fin 3) rfl _
theorem finalA_1 (c : Dev nD) : finalA m ρ c (1 : Fin 3) = m (win0_1.arr.view.loc (c : Thread nD τ)) :=
  (dats (F := F) m ρ 0 c).arrAt_in (1 : Fin 3) rfl _

/-- The run leaves the inputs alone and every semaphore at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_0 m ρ c), (h.1 c 1).trans (finalA_1 m ρ c)⟩, h.2⟩) (run_main m ρ)

end Cert.KProof

end
-- ==== Proof.Spec.lean ====
/-
  # What each device ends with, over the extended reals

  The mathematics of the exchange without buffers or devices' programs: the quantiser, the sum over the devices, the
  product, and what device `c` holds of it. Both programs are read as `result`.
-/
module

public import Idealize.ShloMosaic.PureOps.Ideal
public import Idealize.ShloMosaic.Lib.Pointwise.Index

@[expose] public section

noncomputable section

namespace Cert.KProof.Spec

open Idealize.ShloMosaic
open scoped BigOperators

/-! ## The quantiser -/

abbrev lo : EReal := Ideal.ofBits .f32 0xC2FE0000#32
abbrev hi : EReal := Ideal.ofBits .f32 0x42FE0000#32

theorem lo_eq : lo = ((-127 : ℝ) : EReal) := by simp [Ideal.ofBits, Ideal.ieee, -EReal.coe_mul, -EReal.coe_neg]; norm_num
theorem hi_eq : hi = ((127 : ℝ) : EReal) := by simp [Ideal.ofBits, Ideal.ieee, -EReal.coe_mul]; norm_num

/-- Rounded to nearest even and clipped to `[-127, 127]`. -/
def clip (x : EReal) : EReal := min hi (max lo (Ideal.liftRound Ideal.roundHalfEven x))

/-- The two steps: 1/32 and 3. -/
abbrev fine : EReal := Ideal.ofBits .f32 0x3D000000#32
abbrev coarse : EReal := Ideal.ofBits .f32 0x40400000#32

theorem fine_eq : fine = ((1 / 32 : ℝ) : EReal) := by simp [Ideal.ofBits, Ideal.ieee, -EReal.coe_mul]; norm_num
theorem coarse_eq : coarse = ((3 : ℝ) : EReal) := by simp [Ideal.ofBits, Ideal.ieee, -EReal.coe_mul]; norm_num

/-- The multiple of the step nearest to `x`, of at most 127 steps. -/
def sent (x : EReal) : EReal := clip (Ideal.div x fine) * fine
def shown (x : EReal) : EReal := clip (Ideal.div x coarse) * coarse

theorem div_fine (x : EReal) : Ideal.div x fine = x * ((32 : ℝ) : EReal) := by
  rw [fine_eq, Ideal.div_coe (by norm_num)]; norm_num
theorem div_coarse (x : EReal) : Ideal.div x coarse = x * ((1 / 3 : ℝ) : EReal) := by
  rw [coarse_eq, Ideal.div_coe (by norm_num)]

/-- A clipped value is an integer between -127 and 127. -/
theorem clip_int (x : EReal) : ∃ z : ℤ, -127 ≤ z ∧ z ≤ 127 ∧ clip x = ((z : ℝ) : EReal) := by
  unfold clip
  rw [lo_eq, hi_eq]
  induction x with
  | bot => exact ⟨-127, by decide, by decide, by
      rw [show Ideal.liftRound Ideal.roundHalfEven ⊥ = ⊥ from rfl, max_eq_left bot_le, min_eq_right (by exact_mod_cast (by norm_num : (-127 : ℝ) ≤ 127))]
      norm_num⟩
  | top => exact ⟨127, by decide, by decide, by
      rw [show Ideal.liftRound Ideal.roundHalfEven ⊤ = ⊤ from rfl, max_eq_right le_top, min_eq_left le_top]
      norm_num⟩
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    push_cast
    rfl

/-- So it survives as an eight-bit integer. -/
theorem clip_word (x : EReal) : (((Ideal.fptosi 8 (clip x)).toInt : ℝ) : EReal) = clip x := by
  obtain ⟨z, h1, h2, hz⟩ := clip_int x
  rw [hz]
  have hw : Ideal.fptosi 8 ((z : ℝ) : EReal) = BitVec.ofInt 8 z := by
    unfold Ideal.fptosi
    congr 1
    show max _ (min _ (if (0 : ℝ) ≤ (z : ℝ) then ⌊(z : ℝ)⌋ else ⌈(z : ℝ)⌉)) = z
    rw [Int.floor_intCast, Int.ceil_intCast, ite_self]
    norm_num
    omega
  rw [hw, BitVec.toInt_ofInt]
  congr 2
  rw [Int.bmod_def]
  split <;> omega

/-! ## The sum over the devices -/

/-- Whether column `k` of a row travels quantised between devices whose numbers differ by `r`. -/
def far (k : ℕ) (r : Fin 8) : Bool :=
  if k < 384 then r.val.testBit 2 else if k < 768 then r.val.testBit 1 else (r.val.testBit 0 ^^ r.val.testBit 1)

/-- What arrives of `x`. -/
def part (k : ℕ) (r : Fin 8) (x : EReal) : EReal := if far k r then sent x else x

/-- The block of 256 rows which row `x` belongs to. -/
def blockOf (x : Fin 2048) : Fin 8 := ⟨x.val / 256, by omega⟩

variable (X : Fin 8 → Fin 2048 → Fin 1024 → EReal) (W : Fin 1024 → Fin 1024 → EReal)

/-- Row `x`, column `k` of the sum of the devices' arrays. -/
def total (x : Fin 2048) (k : Fin 1024) : EReal := ∑ j : Fin 8, part k.val (j ^^^ blockOf x) (X j x k)

/-- The product with `W`. -/
def prod (x : Fin 2048) (n : Fin 1024) : EReal := ∑ k : Fin 1024, total X x k * W k n

/-- What device `c` ends with. -/
def result (c : Fin 8) (x : Fin 2048) (n : Fin 1024) : EReal :=
  if c = blockOf x then prod X W x n else shown (prod X W x n)

/-- The columns of the sum, group after group. -/
theorem sum_columns (f : Fin 1024 → EReal) :
    ∑ k : Fin 1024, f k = (∑ k : Fin 384, f ⟨k.val, by omega⟩) + (∑ k : Fin 384, f ⟨384 + k.val, by omega⟩)
      + ∑ k : Fin 256, f ⟨768 + k.val, by omega⟩ := by
  have h1 := Fin.sum_univ_add (a := 768) (b := 256) f
  have h2 := Fin.sum_univ_add (a := 384) (b := 384) fun i => f (Fin.castAdd 256 i)
  exact h1.trans (congrArg (· + _) h2)

end Cert.KProof.Spec

end
-- ==== Proof.KernelValue.lean ====
/-
  # What the devices compute

  Read over the extended reals, each device's result is the mathematics' one: the three halvings of a group add up the
  parts of all eight devices, the three products the whole row, and a gathered block is the product as it is shown.
-/
module

public import proofs.«01_k».proof.Proof.Launch
public import proofs.«01_k».proof.Proof.Spec
public import Idealize.ShloMosaic.Lib.Pointwise

@[expose] public section

noncomputable section

namespace Cert.KProof

open Cert.KernelIdeal Cert.KernelIdeal.Gen
open Idealize.ShloMosaic Idealize.ShloMosaic.TcCoe
open Cert.KProof.Spec (lo hi clip sent shown far part)

/-! ## The literals -/

theorem bf_32 : Ideal.ofBits .bf16 0x4200#16 = ((32 : ℝ) : EReal) := by
  simp [Ideal.ofBits, Ideal.ieee, -EReal.coe_mul]; norm_num
theorem bf_fine : Ideal.ofBits .bf16 0x3D00#16 = Spec.fine := by
  simp [Ideal.ofBits, Ideal.ieee, -EReal.coe_mul]; norm_num
theorem bf_coarse : Ideal.ofBits .bf16 0x4040#16 = Spec.coarse := by
  simp [Ideal.ofBits, Ideal.ieee, -EReal.coe_mul]; norm_num
theorem third : Named.named (F := Ideal) κ "third" (φ := .f32) 0x3EAAAAAB#32 = ((1 / 3 : ℝ) : EReal) :=
  IdealRules.named_const.ideal_named_scalar _ _ _ _ rfl

/-! ## The steps, an element at a time -/

theorem qz_apply (p : Fin 3) (t : Vec Ideal (shp p) .bf16) (y : (shp p).Idx) :
    qz p t y = Ideal.fptosi 8 (clip (Ideal.div (t y) Spec.fine)) := by
  unfold qz
  rw [shapeCast_id, shapeCast_id, Spec.div_fine, ← bf_32]
  rfl

theorem add8_apply (p : Fin 3) (r t : Vec Ideal (shp p) .bf16) (y : (shp p).Idx) :
    add8 p (qz p r) t y = t y + sent (r y) := by
  unfold add8
  rw [shapeCast_id, shapeCast_id]
  show t y + (((qz p r y).toInt : ℝ) : EReal) * Ideal.ofBits .bf16 0x3D00#16 = _
  rw [qz_apply, Spec.clip_word, bf_fine]
  rfl

theorem add16_apply (p : Fin 3) (r a : Vec Ideal (shp p) .bf16) (y : (shp p).Idx) : add16 p r a y = (a y + r y : EReal) := by
  unfold add16
  rw [shapeCast_id]
  rfl

theorem shown_apply (p : Fin 3) (o : FVec Ideal S256x1024 .f32) (y : (shp p).Idx) :
    dq3 (F := Ideal) p (q3 p o) y = shown (extractStridedSlice (shp p) ![0, col p] o (slicesP p) y) := by
  unfold q3
  rw [shapeCast_id]
  show (((Ideal.fptosi 8 (clip (_ * Named.named (F := Ideal) κ "third" (φ := .f32) 0x3EAAAAAB#32))).toInt : ℝ) : EReal) * Ideal.ofBits .bf16 0x4040#16 = _
  rw [Spec.clip_word, bf_coarse, third, ← Spec.div_coarse]
  rfl

variable (T : Dev nD → TBuf Ideal) (Wt : Dev nD → WBuf Ideal)

theorem tV_apply (p : Fin 3) (r : Fin 8) (c : Dev nD) (y : (shp p).Idx) : tV T p r c y = T c ((tR c p r).emb y) := rfl

theorem A1_apply (p : Fin 3) (k : Fin 4) (c : Dev nD) (y : (shp p).Idx) :
    A1 T p k c y = tV T p (dd p k) c y + sent (tV T p (dd p k ^^^ m1 p) (nb (m1 p) c) y) := add8_apply p _ _ y

/-! ## The halvings -/

theorem nb_comm (a b : Fin 8) (c : Dev nD) : nb a (nb b c) = nb b (nb a c) := by revert a b c; decide +kernel

/-- The devices by their distance from `c`. -/
def distEquiv (c : Dev nD) : Fin 8 ≃ Fin 8 :=
  ⟨fun r => nb r c, fun d => nb d c, fun r => by revert r c; decide +kernel, fun d => by revert d c; decide +kernel⟩

/-- Where element `y` of device `c`'s block of group `p` lies in the array. -/
abbrev at' (p : Fin 3) (c : Dev nD) (y : (shp p).Idx) : S2048x1024.Idx := (tR c p 0).emb y

/-- Its value on the device `r` away. -/
abbrev own (p : Fin 3) (c : Dev nD) (y : (shp p).Idx) (r : Fin 8) : EReal := T (nb r c) (at' p c y)

theorem tR_emb (p : Fin 3) (r : Fin 8) (c : Dev nD) (y : (shp p).Idx) : (tR (nb r c) p r).emb y = at' p c y := by
  funext i
  refine Fin.ext ?_
  show tOff (nb r c) p r i + 1 * (y i).val = tOff c p 0 i + 1 * (y i).val
  rw [tOff_eq, tOff_eq, nb_self, nb_zero]

theorem tV_nb (p : Fin 3) (r : Fin 8) (c : Dev nD) (y : (shp p).Idx) : tV T p r (nb r c) y = own T p c y r :=
  congrArg (T (nb r c)) (tR_emb p r c y)

theorem tV_nb_nb (p : Fin 3) (r s : Fin 8) (c : Dev nD) (y : (shp p).Idx) :
    tV T p (r ^^^ s) (nb s (nb r c)) y = own T p c y (r ^^^ s) := by
  rw [nb_comm, nb_nb, tV_nb]

theorem A1_nb (p : Fin 3) (k : Fin 4) (c : Dev nD) (y : (shp p).Idx) :
    (A1 T p k (nb (dd p k) c) y : EReal) = own T p c y (dd p k) + sent (own T p c y (dd p k ^^^ m1 p)) :=
  (A1_apply T p k _ y).trans (congrArg₂ (fun u v : EReal => u + sent v) (tV_nb T p _ c y) (tV_nb_nb T p _ (m1 p) c y))

/-- The eight distances, in the order they are added. -/
theorem sum_dd (p : Fin 3) (f : Fin 8 → EReal) : ∑ r : Fin 8, f r
    = ((f (dd p 3) + f (dd p 3 ^^^ m1 p)) + (f (dd p 0) + f (dd p 0 ^^^ m1 p))) + ((f (dd p 2) + f (dd p 2 ^^^ m1 p)) + (f (dd p 1) + f (dd p 1 ^^^ m1 p))) := by
  rw [Fin.sum_univ_eight]
  match p with
  | 0 =>
    show _ = ((f 0 + f 4) + (f 3 + f 7)) + ((f 1 + f 5) + (f 2 + f 6))
    abel
  | 1 =>
    show _ = ((f 0 + f 3) + (f 1 + f 2)) + ((f 4 + f 7) + (f 5 + f 6))
    abel
  | 2 =>
    show _ = ((f 0 + f 1) + (f 4 + f 5)) + ((f 3 + f 2) + (f 7 + f 6))
    abel

theorem far_col (p : Fin 3) (r : Fin 8) (b : ℕ) (hb : b < wid p) : far (col p + b) r = far (col p) r := by
  match p, hb with
  | 0, hb =>
    have h : b < 384 := hb
    show far (0 + b) r = far 0 r
    unfold far; rw [if_pos (by omega), if_pos (by omega)]
  | 1, hb =>
    have h : b < 384 := hb
    show far (384 + b) r = far 384 r
    unfold far; rw [if_neg (by omega), if_pos (by omega), if_neg (by omega), if_pos (by omega)]
  | 2, hb =>
    show far (768 + b) r = far 768 r
    unfold far; rw [if_neg (by omega), if_neg (by omega), if_neg (by omega), if_neg (by omega)]

theorem far_dd (p : Fin 3) (k : Fin 4) : far (col p) (dd p k) = false ∧ far (col p) (dd p k ^^^ m1 p) = true := by
  revert p k; decide +kernel

theorem B3_sum (p : Fin 3) (c : Dev nD) (y : (shp p).Idx) :
    (B3 T p c y : EReal) = ∑ r : Fin 8, part (col p) r (own T p c y r) := by
  have hA (k : Fin 4) : (A1 T p k (nb (dd p k) c) y : EReal)
      = part (col p) (dd p k) (own T p c y (dd p k)) + part (col p) (dd p k ^^^ m1 p) (own T p c y (dd p k ^^^ m1 p)) := by
    rw [A1_nb]
    unfold part
    rw [(far_dd p k).1, (far_dd p k).2]
    rfl
  rw [sum_dd p fun r => part (col p) r (own T p c y r), ← hA 3, ← hA 0, ← hA 2, ← hA 1]
  unfold B3
  rw [add16_apply]
  unfold A2 B2
  rw [add16_apply, add16_apply, show nb (dd p 3) c = c from nb_zero c,
    show nb (dd p 1) c = nb (X.bmsk p 0) (nb (X.bmsk p 2) c) from (nb_nb _ _ c).symm]
  rfl

/-! ## The product -/

/-- The devices' arrays by row and column. -/
abbrev rowsOf : Fin 8 → Fin 2048 → Fin 1024 → EReal := fun j x k => T j (ix2 x k)
abbrev gridOf (w : WBuf Ideal) : Fin 1024 → Fin 1024 → EReal := fun k n => w (ix2 k n)

/-- Row `a` of device `c`'s block. -/
abbrev rowAt (c : Dev nD) (a : Fin 256) : Fin 2048 := ⟨256 * c.val + a.val, by have : c.val < 8 := c.isLt; omega⟩
theorem blockOf_rowAt (c : Dev nD) (a : Fin 256) : Spec.blockOf (rowAt c a) = c :=
  Fin.ext (by show (256 * c.val + a.val) / 256 = c.val; omega)

theorem at'_eq (p : Fin 3) (c : Dev nD) (a : Fin 256) (b : Fin (wid p)) (k : Fin 1024) (hk : k.val = col p + b.val) :
    at' p c (ix2 a b) = ix2 (rowAt c a) k := by
  funext i
  refine Fin.ext ?_
  show tOff c p 0 i + 1 * ((ix2 a b : (shp p).Idx) i).val = _
  rw [tOff_eq, nb_zero]
  match i with
  | 0 => show 256 * c.val + 1 * a.val = 256 * c.val + a.val; omega
  | 1 => show col p + 1 * b.val = k.val; omega

theorem B3_total (p : Fin 3) (c : Dev nD) (a : Fin 256) (b : Fin (wid p)) (k : Fin 1024) (hk : k.val = col p + b.val) :
    (B3 T p c (ix2 a b) : EReal) = Spec.total (rowsOf T) (rowAt c a) k := by
  rw [B3_sum]
  unfold Spec.total
  rw [blockOf_rowAt]
  refine Fintype.sum_equiv (distEquiv c) _ _ fun r => ?_
  show part (col p) r (T (nb r c) (at' p c (ix2 a b))) = part k.val (nb r c ^^^ c) (T (nb r c) (ix2 (rowAt c a) k))
  rw [at'_eq p c a b k hk, hk]
  unfold part
  rw [far_col p _ _ b.isLt, show (nb r c : Fin 8) ^^^ c = r by revert r c; decide +kernel]

theorem dot3_apply (a0 : Vec Ideal S256x384 .bf16) (w0 : Vec Ideal S384x1024 .bf16) (a1 : Vec Ideal S256x384 .bf16) (w1 : Vec Ideal S384x1024 .bf16)
    (a2 : Vec Ideal S256x256 .bf16) (w2 : Vec Ideal S256x1024 .bf16) (a : Fin 256) (n : Fin 1024) :
    (dot3 a0 w0 a1 w1 a2 w2 (ix2 a n) : EReal) = (∑ k : Fin 384, (a0 (ix2 a k) * w0 (ix2 k n) : EReal))
      + (∑ k : Fin 384, (a1 (ix2 a k) * w1 (ix2 k n) : EReal)) + ∑ k : Fin 256, (a2 (ix2 a k) * w2 (ix2 k n) : EReal) := by
  pointwise [dot3, k0_pay44]

/-- The rows of the weights a group meets. -/
theorem wRows_apply (c : Dev nD) (n : Fin 1024) (k0 : Fin 384) (k2 : Fin 256) :
    (wM.access rowsW0).read (Elt Ideal) (wV Wt c) (ix2 k0 n) = gridOf (Wt c) ⟨k0.val, by omega⟩ n
      ∧ (wM.access rowsW1).read (Elt Ideal) (wV Wt c) (ix2 k0 n) = gridOf (Wt c) ⟨384 + k0.val, by omega⟩ n
      ∧ (wM.access rowsW2).read (Elt Ideal) (wV Wt c) (ix2 k2 n) = gridOf (Wt c) ⟨768 + k2.val, by omega⟩ n := by
  have hw : wV Wt c = Wt c := by unfold wV k0_pay18; simp only [shapeCast_id]
  rw [hw]
  refine ⟨congrArg (Wt c) (funext fun i => Fin.ext ?_), congrArg (Wt c) (funext fun i => Fin.ext ?_), congrArg (Wt c) (funext fun i => Fin.ext ?_)⟩
  · match i with
    | 0 => show 0 + 1 * k0.val = k0.val; omega
    | 1 => show 0 + 1 * n.val = n.val; omega
  · match i with
    | 0 => show 384 + 1 * k0.val = 384 + k0.val; omega
    | 1 => show 0 + 1 * n.val = n.val; omega
  · match i with
    | 0 => show 768 + 1 * k2.val = 768 + k2.val; omega
    | 1 => show 0 + 1 * n.val = n.val; omega

theorem outV_prod (c : Dev nD) (a : Fin 256) (n : Fin 1024) :
    (outV T Wt c (ix2 a n) : EReal) = Spec.prod (rowsOf T) (gridOf (Wt c)) (rowAt c a) n := by
  unfold outV Spec.prod
  rw [Spec.sum_columns]
  refine (dot3_apply _ _ _ _ _ _ a n).trans ?_
  congr 1
  · congr 1
    · refine Finset.sum_congr rfl fun k _ => ?_
      exact congrArg₂ (fun u v : EReal => u * v) (B3_total T 0 c a k _ (by show k.val = 0 + k.val; omega)) (wRows_apply Wt c n k 0).1
    · refine Finset.sum_congr rfl fun k _ => ?_
      exact congrArg₂ (fun u v : EReal => u * v) (B3_total T 1 c a k _ rfl) (wRows_apply Wt c n k 0).2.1
  · refine Finset.sum_congr rfl fun k _ => ?_
    exact congrArg₂ (fun u v : EReal => u * v) (B3_total T 2 c a k _ rfl) (wRows_apply Wt c n 0 k).2.2

/-! ## The result -/

variable (w : WBuf Ideal)

/-- Device `c`'s result, element by element, where all hold the same weights. -/
theorem resV_apply (c : Dev nD) (x : Fin 2048) (n : Fin 1024) :
    (resV T (fun _ => w) c (ix2 x n) : EReal) = Spec.result (rowsOf T) (gridOf w) c x n := by
  have hx : (ix2 x n : S2048x1024.Idx) ∈ (Finset.univ : Finset Piece).biUnion (fun t => (outR c t).set) := by
    rw [outR_cover]; exact Finset.mem_univ _
  obtain ⟨t, -, ht⟩ := Finset.mem_biUnion.mp hx
  have hm := (mem_outR c _ t).mp ht
  match t, hm with
  | none, hm =>
    have h0 : 256 * c.val ≤ x.val ∧ x.val < 256 * c.val + 256 := hm
    have hb : c = Spec.blockOf x := Fin.ext (by show c.val = x.val / 256; omega)
    have he : (ix2 x n : S2048x1024.Idx) = (outR c none).emb (ix2 (⟨x.val - 256 * c.val, by omega⟩ : Fin 256) n) := by
      funext i
      refine Fin.ext ?_
      show _ = k0_off4 c i + 1 * _
      rw [oOff_eq]
      match i with
      | 0 => show x.val = 256 * c.val + 1 * (x.val - 256 * c.val); omega
      | 1 => show n.val = 0 + 1 * n.val; omega
    rw [he, resV_emb]
    unfold Spec.result
    rw [if_pos hb]
    refine (outV_prod T (fun _ => w) c _ n).trans ?_
    congr 1
    exact Fin.ext (by show 256 * c.val + (x.val - 256 * c.val) = x.val; omega)
  | some (p, i), hm =>
    let d : Dev nD := nb (ob p i) c
    have h0 : 256 * d.val ≤ x.val ∧ x.val < 256 * d.val + 256 := hm.1
    have h1 : col p ≤ n.val ∧ n.val < col p + wid p := hm.2
    have hb : ¬ c = Spec.blockOf x := fun h => ob_ne c p i (Fin.ext (by
      show d.val = c.val
      rw [h]
      show d.val = x.val / 256
      omega))
    have he : (ix2 x n : S2048x1024.Idx)
        = (outR c (some (p, i))).emb (ix2 (⟨x.val - 256 * d.val, by omega⟩ : Fin 256) (⟨n.val - col p, by omega⟩ : Fin (wid p))) := by
      funext j
      refine Fin.ext ?_
      show _ = tOff c p (ob p i) j + 1 * _
      rw [tOff_eq]
      match j with
      | 0 => show x.val = 256 * d.val + 1 * (x.val - 256 * d.val); omega
      | 1 => show n.val = col p + 1 * (n.val - col p); omega
    rw [he, resV_emb]
    unfold Spec.result
    rw [if_neg hb]
    refine (shown_apply p (outV T (fun _ => w) d) _).trans ?_
    refine congrArg shown (Eq.trans (congrArg (outV T (fun _ => w) d) (?_ : _ = ix2 (⟨x.val - 256 * d.val, by omega⟩ : Fin 256) n)) (outV_prod T (fun _ => w) d _ n) |>.trans ?_)
    · funext j
      refine Fin.ext ?_
      match j with
      | 0 => show 0 + (x.val - 256 * d.val) = x.val - 256 * d.val; omega
      | 1 => show col p + (n.val - col p) = n.val; omega
    · congr 1
      exact Fin.ext (by show 256 * d.val + (x.val - 256 * d.val) = x.val; omega)

/-! ## What the run leaves -/

variable (m : (ℓ : Loc nD τ sig) → Buf (Elt Ideal) ℓ) (ρ : Dev nD → PrngReg)

theorem set_whole_block (b : Ref sig .tc) {off : Fin b.ty.shape.rank → Nat} (h : off = fun _ => 0)
    (inb : ∀ a, off a + b.ty.shape.size a ≤ b.ty.shape.size a) :
    ((Memref.whole b).access (Rect.unit off b.ty.shape.size inb) : View sig .tc _ _ _).set = Finset.univ := by
  subst h; exact Memref.set_access_whole b

theorem Tin_eq (c : Dev nD) : Tin m c = m ((c.tc : Thread nD τ).loc main_arg0) :=
  Memref.read_access_unit_zero (Elt Ideal) main_arg0 (by decide +kernel) _ _
theorem Win_eq (c : Dev nD) : Win m c = m ((c.tc : Thread nD τ).loc main_arg1) :=
  Memref.read_access_unit_zero (Elt Ideal) main_arg1 (by decide +kernel) _ _
theorem finalA_2 (c : Dev nD) : finalA m ρ c (2 : Fin 3) = target m c :=
  (dats (F := Ideal) m ρ 0 c).arrAt_eq_of_cover (2 : Fin 3) (target m c)
    (fun t _ => by
      rw [fin_N t]
      exact (Memref.read_access_unit_zero (Elt Ideal) main_v1 (by decide +kernel) _ _).symm)
    (fun i => ⟨t₀, flush0_2 t₀, by
      rw [show ((cfg0.win 2).blk t₀).view.set = Finset.univ from
        set_whole_block main_v1 (by decide +kernel) _]
      exact Finset.mem_univ _⟩)

end Cert.KProof

end
-- ==== Proof.RefValue.lean ====
/-
  # What the reference computes

  Its result, read over the extended reals an element at a time.
-/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

noncomputable section

namespace Cert.KProof.Ref

open Cert.ReferenceIdeal Cert.ReferenceIdeal.Gen Cert.ReferenceIdeal.Value
open Idealize.ShloMosaic Idealize.ShloMosaic.TcCoe

/-! ## The bit that says whether a value travels quantised -/

theorem slt_384 (k : Fin 1024) : IntOp.cmpi .slt (BitVec.ofNat 32 k.val) 384#32 = if k.val < 384 then 1#1 else 0#1 := by
  revert k; decide +kernel
theorem slt_768 (k : Fin 1024) : IntOp.cmpi .slt (BitVec.ofNat 32 k.val) 768#32 = if k.val < 768 then 1#1 else 0#1 := by
  revert k; decide +kernel

/-- A distance's bit, as a mask. -/
abbrev mask (w : BitVec 32) : BitVec 1 := IntOp.cmpi .eq (IntOp.andi w 1#32) 1#32
abbrev dist (d b : Fin 8) : BitVec 32 := IntOp.xori (BitVec.ofNat 32 d.val) (BitVec.ofNat 32 b.val)

theorem bit2 (d b : Fin 8) : mask (IntOp.shrsi .host (dist d b) 2#32) = BitVec.ofBool ((d ^^^ b).val.testBit 2) := by
  revert d b; decide +kernel
theorem bit1 (d b : Fin 8) : mask (IntOp.shrsi .host (dist d b) 1#32) = BitVec.ofBool ((d ^^^ b).val.testBit 1) := by
  revert d b; decide +kernel
theorem bit01 (d b : Fin 8) : mask (IntOp.xori (dist d b) (IntOp.shrsi .host (dist d b) 1#32))
    = BitVec.ofBool ((d ^^^ b).val.testBit 0 ^^ (d ^^^ b).val.testBit 1) := by
  revert d b; decide +kernel

theorem select_bool {α : Type} (b : Bool) (u v : α) : Scalar.select (BitVec.ofBool b) u v = if b then u else v := by
  cases b <;> rfl

theorem mask_far (k : Fin 1024) (d b : Fin 8) :
    mask (Scalar.select (IntOp.cmpi .slt (BitVec.ofNat 32 k.val) 384#32) (IntOp.shrsi .host (dist d b) 2#32)
      (Scalar.select (IntOp.cmpi .slt (BitVec.ofNat 32 k.val) 768#32) (IntOp.shrsi .host (dist d b) 1#32)
        (IntOp.xori (dist d b) (IntOp.shrsi .host (dist d b) 1#32)))) = BitVec.ofBool (Spec.far k.val (d ^^^ b)) := by
  rw [slt_384, slt_768]
  unfold Spec.far
  by_cases h : k.val < 384
  · rw [if_pos h, if_pos h]; exact bit2 d b
  · rw [if_neg h, if_neg h]
    by_cases h' : k.val < 768
    · rw [if_pos h', if_pos h']; exact bit1 d b
    · rw [if_neg h', if_neg h']; exact bit01 d b

theorem same_block (c b : Fin 8) : IntOp.cmpi .eq (BitVec.ofNat 32 c.val) (BitVec.ofNat 32 b.val) = BitVec.ofBool (decide (c = b)) := by
  revert c b; decide +kernel

/-! ## The result -/

variable (m : (ℓ : Loc nD τ sig) → Buf (Elt Ideal) ℓ)

/-- Row `a` of row block `b` on a device; and that of device `c` in the whole array. -/
abbrev rowIn (b : Fin 8) (a : Fin 256) : Fin 2048 := ⟨256 * b.val + a.val, by omega⟩
abbrev rowOf (c : Fin 8) (x : Fin 2048) : Fin 16384 := ⟨2048 * c.val + x.val, by omega⟩

/-- The devices' blocks of the first argument; the second. -/
abbrev X : Fin 8 → Fin 2048 → Fin 1024 → EReal := fun j x k => m (((0 : Dev nD).tc : Thread nD τ).loc main_arg0) (ix2 (rowOf j x) k)
abbrev W : Fin 1024 → Fin 1024 → EReal := fun k n => m (((0 : Dev nD).tc : Thread nD τ).loc main_arg1) (ix2 k n)

theorem res_apply (c : Fin 8) (x : Fin 2048) (n : Fin 1024) :
    (res_out0 m (0 : Dev nD) (ix2 (rowOf c x) n) : Ideal .bf16) = Spec.result (X m) (W m) c x n := by
  obtain ⟨b, a, rfl⟩ : ∃ (b : Fin 8) (a : Fin 256), x = rowIn b a :=
    ⟨Spec.blockOf x, ⟨x.val % 256, by omega⟩, Fin.ext (by show x.val = 256 * (x.val / 256) + x.val % 256; omega)⟩
  have hb : Spec.blockOf (rowIn b a) = b := Fin.ext (by show (256 * b.val + a.val) / 256 = b.val; omega)
  have e1 : (2048 * c.val + (256 * b.val + a.val)) / 2048 = c.val := by omega
  have e2 : (2048 * c.val + (256 * b.val + a.val)) / 256 % 8 = b.val := by omega
  have ht (k : Fin 1024) : Spec.total (X m) (rowIn b a) k = ∑ j : Fin 8,
      Scalar.select (mask (Scalar.select (IntOp.cmpi .slt (BitVec.ofNat 32 k.val) 384#32) (IntOp.shrsi .host (dist j b) 2#32)
        (Scalar.select (IntOp.cmpi .slt (BitVec.ofNat 32 k.val) 768#32) (IntOp.shrsi .host (dist j b) 1#32)
          (IntOp.xori (dist j b) (IntOp.shrsi .host (dist j b) 1#32)))))
        (Spec.sent (m (((0 : Dev nD).tc : Thread nD τ).loc main_arg0) (ix2 ⟨j.val * 2048 + b.val * 256 + a.val, by omega⟩ k)))
        (m (((0 : Dev nD).tc : Thread nD τ).loc main_arg0) (ix2 ⟨j.val * 2048 + b.val * 256 + a.val, by omega⟩ k)) := by
    unfold Spec.total
    rw [hb]
    refine Finset.sum_congr rfl fun j _ => ?_
    rw [mask_far, select_bool]
    have e : rowOf j (rowIn b a) = ⟨j.val * 2048 + b.val * 256 + a.val, by omega⟩ :=
      Fin.ext (by show 2048 * j.val + (256 * b.val + a.val) = j.val * 2048 + b.val * 256 + a.val; omega)
    unfold Spec.part X
    rw [e]
  unfold Spec.result Spec.prod
  rw [hb]
  simp only [ht]
  pointwise [res_out0, res_main_v47]
  rw [e1, e2, same_block, select_bool]
  by_cases h : c = b
  · rw [decide_eq_true h, if_pos h, if_pos rfl]
    rfl
  · rw [decide_eq_false h, if_neg h, if_neg Bool.false_ne_true]
    rfl

end Cert.KProof.Ref

end
-- ==== Proof.lean ====
/-
  # The five claims

  The two frames of the kernel from one run, the reference's frame from its own, the named literal, and that every
  device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.KProof.run_frame (F := Ideal) m ρ
/-- Over float values a named literal is the word it stands for. -/
abbrev named_word : Named Bits := ⟨fun _ _ φ b => FloatOps.ofBits φ b⟩

/-- Read so, the ideal kernel is the kernel: their body tables are equal. -/
theorem defs₀_eq : Cert.Kernel.defs₀ (F := Bits) = @Cert.KernelIdeal.defs₀ Bits _ named_word _ :=
  congrArg Defs.onTc (funext fun l => funext fun x => match l, x with | 0, (_, _) => rfl)

theorem defs_eq : Cert.Kernel.defs (F := Bits) = @Cert.KernelIdeal.defs Bits _ named_word _ :=
  congrArg (Pipeline.defs Cert.Kernel.pcfgs) defs₀_eq

/-- The frame of the compiled program, from the run proved over any float values. -/
theorem frame_kernel : Cert.quiescent_Kernel := fun m ρ _ => by
  rw [defs_eq]
  exact @Cert.KProof.run_frame Bits _ named_word m ρ

/-- The kernel's literal for a third is named: over the extended reals it is the third. -/
theorem preserves : Cert.preserves_Kernel_KernelIdeal :=
  IdealRules.named_const.statement Cert.KernelIdeal.κ "third" .f32 0x3EAAAAAB#32 ((1 / 3 : ℝ) : EReal) rfl

/-- The reference allocates no semaphore and writes only its own values. -/
theorem frame_reference : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- A block's row in the whole array. -/
theorem idx_rows (h : Layout.Tiles ⟨2, ![2048, 1024]⟩ ⟨2, ![16384, 1024]⟩ 0 8) (c : Fin 8) (x : Fin 2048) (n : Fin 1024) :
    h.idx c (ix2 x n) = ix2 (Cert.KProof.Ref.rowOf c x) n := by
  funext i
  refine Fin.ext ?_
  match i with
  | 0 => show c.val * 2048 + x.val = 2048 * c.val + x.val; omega
  | 1 => rfl

theorem algebraic : Cert.algebraic_KernelIdeal_ReferenceIdeal := fun m ρ m' ρ' _ hm => by
  refine ⟨Cert.ReferenceIdeal.Value.res_out0 m' 0, (θ_run Cert.KernelIdeal.defs _ _).mono (fun r h c => ?_) (Cert.KProof.run_main (F := Ideal) m ρ),
    (θ_run Cert.ReferenceIdeal.defs _ _).mono (fun r h => h 0) (Cert.ReferenceIdeal.Value.run (F := Ideal) m' ρ')⟩
  refine ⟨?_, (h.1 c 0).trans (Cert.KProof.finalA_0 m ρ c), (h.1 c 1).trans (Cert.KProof.finalA_1 m ρ c)⟩
  refine (h.1 c 2).trans ((Cert.KProof.finalA_2 m ρ c).trans ?_)
  have hT : Cert.KProof.rowsOf (Cert.KProof.Tin m) = Cert.KProof.Ref.X m' := funext fun j => funext fun x => funext fun k => by
    show Cert.KProof.Tin m j (ix2 x k) = _
    rw [Cert.KProof.Tin_eq, (hm j).1, Layout.block_apply, idx_rows]
  have hW : Cert.KProof.Win m = fun _ => m' (((0 : Dev Cert.ReferenceIdeal.nD).tc : Thread Cert.ReferenceIdeal.nD Cert.ReferenceIdeal.τ).loc Cert.ReferenceIdeal.main_arg1) :=
    funext fun j => (Cert.KProof.Win_eq m j).trans (hm j).2
  funext i
  rw [Layout.block_apply]
  obtain ⟨x, n, rfl⟩ : ∃ (x : Fin 2048) (n : Fin 1024), i = ix2 x n := ⟨i 0, i 1, eq_ix2 i⟩
  rw [idx_rows]
  refine Eq.trans ?_ (Cert.KProof.Ref.res_apply m' c x n).symm
  unfold Cert.KProof.target
  rw [hW]
  refine (Cert.KProof.resV_apply (Cert.KProof.Tin m) _ c x n).trans ?_
  rw [hT]

theorem claim : Cert.Claim := ⟨Cert.Kernel.Gen.facts, Cert.KernelIdeal.Gen.facts, Cert.ReferenceIdeal.Gen.facts,
  frame_kernel, frame_ideal, frame_reference, preserves, algebraic⟩

end Cert.Proof

end
